-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x2048 : Shape := ⟨3, ![1, 128, 2048]⟩
abbrev S2048 : Shape := ⟨1, ![2048]⟩
abbrev S172032x2048 : Shape := ⟨2, ![172032, 2048]⟩
abbrev S172032 : Shape := ⟨1, ![172032]⟩
abbrev S128x2048 : Shape := ⟨2, ![128, 2048]⟩
abbrev S1x2048 : Shape := ⟨2, ![1, 2048]⟩
abbrev S84x1x2048 : Shape := ⟨3, ![84, 1, 2048]⟩
abbrev S16x128 : Shape := ⟨2, ![16, 128]⟩
abbrev S2048x2048 : Shape := ⟨2, ![2048, 2048]⟩
abbrev S1x1x2048 : Shape := ⟨3, ![1, 1, 2048]⟩
abbrev S16x128x128 : Shape := ⟨3, ![16, 128, 128]⟩
abbrev S128 : Shape := ⟨1, ![128]⟩
abbrev S128x1 : Shape := ⟨2, ![128, 1]⟩
abbrev S8x128 : Shape := ⟨2, ![8, 128]⟩
abbrev S1x1x128 : Shape := ⟨3, ![1, 1, 128]⟩
abbrev S1x128 : Shape := ⟨2, ![1, 128]⟩
abbrev S1x8x128 : Shape := ⟨3, ![1, 8, 128]⟩
abbrev S1x128x128 : Shape := ⟨3, ![1, 128, 128]⟩
abbrev S128x128 : Shape := ⟨2, ![128, 128]⟩
abbrev S128x16 : Shape := ⟨2, ![128, 16]⟩
abbrev S1x128x16 : Shape := ⟨3, ![1, 128, 16]⟩

abbrev nBuf : Space → Nat
  | .hbm => 12
  | .vmem => 10
  | .smem => 0
  | _ => 0

abbrev bufTy : (tb : Table) → Fin (tcTables nBuf tb) → BufTy
  | .hbm, ⟨0, _⟩ => ⟨S1x128x2048, .bf16⟩
  | .hbm, ⟨1, _⟩ => ⟨S2048, .f32⟩
  | .hbm, ⟨2, _⟩ => ⟨S172032x2048, .i8⟩
  | .hbm, ⟨3, _⟩ => ⟨S172032, .f32⟩
  | .hbm, ⟨4, _⟩ => ⟨S128x2048, .bf16⟩
  | .hbm, ⟨5, _⟩ => ⟨S1x2048, .f32⟩
  | .hbm, ⟨6, _⟩ => ⟨S84x1x2048, .f32⟩
  | .hbm, ⟨7, _⟩ => ⟨S16x128, .f32⟩
  | .hbm, ⟨8, _⟩ => ⟨S128x2048, .bf16⟩
  | .hbm, ⟨9, _⟩ => ⟨S128x16, .f32⟩
  | .hbm, ⟨10, _⟩ => ⟨S1x128x16, .f32⟩
  | .hbm, ⟨11, _⟩ => ⟨S1x128x2048, .bf16⟩
  | .local _ .vmem, ⟨0, _⟩ => ⟨S128x2048, .bf16⟩
  | .local _ .vmem, ⟨1, _⟩ => ⟨S1x2048, .f32⟩
  | .local _ .vmem, ⟨2, _⟩ => ⟨S2048x2048, .i8⟩
  | .local _ .vmem, ⟨3, _⟩ => ⟨S2048x2048, .i8⟩
  | .local _ .vmem, ⟨4, _⟩ => ⟨S1x1x2048, .f32⟩
  | .local _ .vmem, ⟨5, _⟩ => ⟨S1x1x2048, .f32⟩
  | .local _ .vmem, ⟨6, _⟩ => ⟨S16x128, .f32⟩
  | .local _ .vmem, ⟨7, _⟩ => ⟨S128x2048, .bf16⟩
  | .local _ .vmem, ⟨8, _⟩ => ⟨S128x2048, .f32⟩
  | .local _ .vmem, ⟨9, _⟩ => ⟨S16x128x128, .f32⟩
  | _, _ => ⟨S1x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![84], ![false]⟩

def k0_cond2 (i : grid0.Coords) : BitVec 1 :=
  let arg0 : BitVec 32 := BitVec.ofNat 32 (i 0).val
  let c83_i32 : BitVec 32 := 83#32
  let v5771 : BitVec 1 := Scalar.cmpi .eq arg0 c83_i32
  let v5772 : BitVec 32 := Scalar.extui v5771
  let c0_i32_2778 : BitVec 32 := 0#32
  let v5773 : BitVec 1 := Scalar.cmpi .ne v5772 c0_i32_2778
  v5773

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x128x2048 : Shape := ⟨3, ![1, 128, 2048]⟩
abbrev S2048 : Shape := ⟨1, ![2048]⟩
abbrev S172032x2048 : Shape := ⟨2, ![172032, 2048]⟩
abbrev S172032 : Shape := ⟨1, ![172032]⟩
abbrev S_ : Shape := ⟨0, ![]⟩
abbrev S1x128 : Shape := ⟨2, ![1, 128]⟩
abbrev S1x128x1 : Shape := ⟨3, ![1, 128, 1]⟩
abbrev S1x1x2048 : Shape := ⟨3, ![1, 1, 2048]⟩
abbrev S128x2048 : Shape := ⟨2, ![128, 2048]⟩
abbrev S128x172032 : Shape := ⟨2, ![128, 172032]⟩
abbrev S1x172032 : Shape := ⟨2, ![1, 172032]⟩
abbrev S128x16 : Shape := ⟨2, ![128, 16]⟩
abbrev S1x128x16 : Shape := ⟨3, ![1, 128, 16]⟩

abbrev nBuf : Space → Nat
  | .hbm => 33
  | .vmem => 0
  | .smem => 0
  | _ => 0

abbrev bufTy : (tb : Table) → Fin (tcTables nBuf tb) → BufTy
  | .hbm, ⟨0, _⟩ => ⟨S1x128x2048, .bf16⟩
  | .hbm, ⟨1, _⟩ => ⟨S2048, .f32⟩
  | .hbm, ⟨2, _⟩ => ⟨S172032x2048, .i8⟩
  | .hbm, ⟨3, _⟩ => ⟨S172032, .f32⟩
  | .hbm, ⟨4, _⟩ => ⟨S1x128x2048, .f32⟩
  | .hbm, ⟨5, _⟩ => ⟨S1x128x2048, .f32⟩
  | .hbm, ⟨6, _⟩ => ⟨S_, .f32⟩
  | .hbm, ⟨7, _⟩ => ⟨S1x128, .f32⟩
  | .hbm, ⟨8, _⟩ => ⟨S1x128x1, .f32⟩
  | .hbm, ⟨9, _⟩ => ⟨S_, .f32⟩
  | .hbm, ⟨10, _⟩ => ⟨S1x128x1, .f32⟩
  | .hbm, ⟨11, _⟩ => ⟨S1x128x1, .f32⟩
  | .hbm, ⟨12, _⟩ => ⟨S_, .f32⟩
  | .hbm, ⟨13, _⟩ => ⟨S1x128x1, .f32⟩
  | .hbm, ⟨14, _⟩ => ⟨S1x128x1, .f32⟩
  | .hbm, ⟨15, _⟩ => ⟨S1x128x1, .f32⟩
  | .hbm, ⟨16, _⟩ => ⟨S1x128x2048, .f32⟩
  | .hbm, ⟨17, _⟩ => ⟨S1x128x2048, .f32⟩
  | .hbm, ⟨18, _⟩ => ⟨S1x1x2048, .f32⟩
  | .hbm, ⟨19, _⟩ => ⟨S1x128x2048, .f32⟩
  | .hbm, ⟨20, _⟩ => ⟨S1x128x2048, .f32⟩
  | .hbm, ⟨21, _⟩ => ⟨S1x128x2048, .bf16⟩
  | .hbm, ⟨22, _⟩ => ⟨S128x2048, .bf16⟩
  | .hbm, ⟨23, _⟩ => ⟨S172032x2048, .i32⟩
  | .hbm, ⟨24, _⟩ => ⟨S172032x2048, .f32⟩
  | .hbm, ⟨25, _⟩ => ⟨S172032x2048, .bf16⟩
  | .hbm, ⟨26, _⟩ => ⟨S128x172032, .f32⟩
  | .hbm, ⟨27, _⟩ => ⟨S1x172032, .f32⟩
  | .hbm, ⟨28, _⟩ => ⟨S128x172032, .f32⟩
  | .hbm, ⟨29, _⟩ => ⟨S128x172032, .f32⟩
  | .hbm, ⟨30, _⟩ => ⟨S128x16, .f32⟩
  | .hbm, ⟨31, _⟩ => ⟨S128x16, .i32⟩
  | .hbm, ⟨32, _⟩ => ⟨S1x128x16, .f32⟩
  | _, _ => ⟨S1x128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_values : Ref sig .tc := ⟨.hbm, 30, rfl⟩
abbrev main_indices : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Body.lean ====
/-
  The printed kernel body regrouped. The body handles the 128 query rows in sixteen groups of eight rows, each group by
  the same statements at another row offset; the printer cuts the whole text into parts of sixty statements without regard
  to the groups. Here the statements of one group are written once at a symbolic row offset `o` (`groupP`), the statements
  before the first group are `headP`, those after the last are `tailP`, and the printed body is shown to be those in order.
-/
module

public import proofs.«01_k».proof.Proof.Gen.KernelIdeal.Frame

@[expose] public section

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

/-- Eight rows from offset `o` and the 128 columns of column tile `t` lie in the scores. -/
theorem inb7 (o t : Nat) (ho : o + 8 ≤ 128) (ht : t < 16) :
    ∀ a, (![o, 128 * t] : Fin 2 → Nat) a + S8x128.size a ≤ S128x2048.size a := by
  intro a
  match a with
  | 0 => exact ho
  | 1 => show 128 * t + 128 ≤ 2048; omega

/-- Eight rows from offset `o` of plane `t` lie in the running best. -/
theorem inb8 (t o : Nat) (ht : t < 16) (ho : o + 8 ≤ 128) :
    ∀ a, (![t, o, 0] : Fin 3 → Nat) a + S1x8x128.size a ≤ S16x128x128.size a := by
  intro a
  match a with
  | 0 => show t + 1 ≤ 16; omega
  | 1 => exact ho
  | 2 => show 0 + 128 ≤ 128; omega

/-- The statements of one group of eight query rows, from row `o` on. -/
noncomputable def groupP (arg4 : Memref sig .tc .vmem S1x1x2048 .f32) (arg7 : Memref sig .tc .vmem S128x2048 .f32) (arg8 : Memref sig .tc .vmem S16x128x128 .f32) (o : Nat) (ho : o + 8 ≤ 128) :
    Prog (TpuEff nD τ sig (Elt F) Λ₀ .tc) PUnit := do
  let v11 : Vec F S8x128 .f32 ← Prog.lift (.load arg7 (Rect.unit (s := S128x2048) ![o, 0] S8x128.size (inb7 o 0 ho (by decide))).toLoadRect (View.loadsAt_vmem h_S8x128))
  let v12 : Vec F S1x1x128 .f32 ← Prog.lift (.load arg4 (Rect.unit (s := S1x1x2048) ![0, 0, 0] S1x1x128.size inb_S1x1x2048_S1x1x128_0_0_0).toLoadRect (View.loadsAt_vmem h_S1x1x128))
  have v13 : FVec F S1x128 .f32 := shapeCast S1x128 v12 shapeCasts_S1x1x128_S1x128
  have v14 : FVec F S8x128 .f32 := broadcastTo S8x128 v13 broadcasts_S1x128_S8x128
  have v15 : FVec F S8x128 .f32 := mulf v11 v14
  let v16 : Vec F S8x128 .f32 ← Prog.lift (.load arg7 (Rect.unit (s := S128x2048) ![o, 128] S8x128.size (inb7 o 1 ho (by decide))).toLoadRect (View.loadsAt_vmem h_S8x128))
  let v17 : Vec F S1x1x128 .f32 ← Prog.lift (.load arg4 (Rect.unit (s := S1x1x2048) ![0, 0, 128] S1x1x128.size inb_S1x1x2048_S1x1x128_0_0_128).toLoadRect (View.loadsAt_vmem h_S1x1x128))
  have v18 : FVec F S1x128 .f32 := shapeCast S1x128 v17 shapeCasts_S1x1x128_S1x128
  have v19 : FVec F S8x128 .f32 := broadcastTo S8x128 v18 broadcasts_S1x128_S8x128
  have v20 : FVec F S8x128 .f32 := mulf v16 v19
  let v21 : Vec F S8x128 .f32 ← Prog.lift (.load arg7 (Rect.unit (s := S128x2048) ![o, 256] S8x128.size (inb7 o 2 ho (by decide))).toLoadRect (View.loadsAt_vmem h_S8x128))
  let v22 : Vec F S1x1x128 .f32 ← Prog.lift (.load arg4 (Rect.unit (s := S1x1x2048) ![0, 0, 256] S1x1x128.size inb_S1x1x2048_S1x1x128_0_0_256).toLoadRect (View.loadsAt_vmem h_S1x1x128))
  have v23 : FVec F S1x128 .f32 := shapeCast S1x128 v22 shapeCasts_S1x1x128_S1x128
  have v24 : FVec F S8x128 .f32 := broadcastTo S8x128 v23 broadcasts_S1x128_S8x128
  have v25 : FVec F S8x128 .f32 := mulf v21 v24
  let v26 : Vec F S8x128 .f32 ← Prog.lift (.load arg7 (Rect.unit (s := S128x2048) ![o, 384] S8x128.size (inb7 o 3 ho (by decide))).toLoadRect (View.loadsAt_vmem h_S8x128))
  let v27 : Vec F S1x1x128 .f32 ← Prog.lift (.load arg4 (Rect.unit (s := S1x1x2048) ![0, 0, 384] S1x1x128.size inb_S1x1x2048_S1x1x128_0_0_384).toLoadRect (View.loadsAt_vmem h_S1x1x128))
  have v28 : FVec F S1x128 .f32 := shapeCast S1x128 v27 shapeCasts_S1x1x128_S1x128
  have v29 : FVec F S8x128 .f32 := broadcastTo S8x128 v28 broadcasts_S1x128_S8x128
  have v30 : FVec F S8x128 .f32 := mulf v26 v29
  let v31 : Vec F S8x128 .f32 ← Prog.lift (.load arg7 (Rect.unit (s := S128x2048) ![o, 512] S8x128.size (inb7 o 4 ho (by decide))).toLoadRect (View.loadsAt_vmem h_S8x128))
  let v32 : Vec F S1x1x128 .f32 ← Prog.lift (.load arg4 (Rect.unit (s := S1x1x2048) ![0, 0, 512] S1x1x128.size inb_S1x1x2048_S1x1x128_0_0_512).toLoadRect (View.loadsAt_vmem h_S1x1x128))
  have v33 : FVec F S1x128 .f32 := shapeCast S1x128 v32 shapeCasts_S1x1x128_S1x128
  have v34 : FVec F S8x128 .f32 := broadcastTo S8x128 v33 broadcasts_S1x128_S8x128
  have v35 : FVec F S8x128 .f32 := mulf v31 v34
  let v36 : Vec F S8x128 .f32 ← Prog.lift (.load arg7 (Rect.unit (s := S128x2048) ![o, 640] S8x128.size (inb7 o 5 ho (by decide))).toLoadRect (View.loadsAt_vmem h_S8x128))
  let v37 : Vec F S1x1x128 .f32 ← Prog.lift (.load arg4 (Rect.unit (s := S1x1x2048) ![0, 0, 640] S1x1x128.size inb_S1x1x2048_S1x1x128_0_0_640).toLoadRect (View.loadsAt_vmem h_S1x1x128))
  have v38 : FVec F S1x128 .f32 := shapeCast S1x128 v37 shapeCasts_S1x1x128_S1x128
  have v39 : FVec F S8x128 .f32 := broadcastTo S8x128 v38 broadcasts_S1x128_S8x128
  have v40 : FVec F S8x128 .f32 := mulf v36 v39
  let v41 : Vec F S8x128 .f32 ← Prog.lift (.load arg7 (Rect.unit (s := S128x2048) ![o, 768] S8x128.size (inb7 o 6 ho (by decide))).toLoadRect (View.loadsAt_vmem h_S8x128))
  let v42 : Vec F S1x1x128 .f32 ← Prog.lift (.load arg4 (Rect.unit (s := S1x1x2048) ![0, 0, 768] S1x1x128.size inb_S1x1x2048_S1x1x128_0_0_768).toLoadRect (View.loadsAt_vmem h_S1x1x128))
  have v43 : FVec F S1x128 .f32 := shapeCast S1x128 v42 shapeCasts_S1x1x128_S1x128
  have v44 : FVec F S8x128 .f32 := broadcastTo S8x128 v43 broadcasts_S1x128_S8x128
  have v45 : FVec F S8x128 .f32 := mulf v41 v44
  let v46 : Vec F S8x128 .f32 ← Prog.lift (.load arg7 (Rect.unit (s := S128x2048) ![o, 896] S8x128.size (inb7 o 7 ho (by decide))).toLoadRect (View.loadsAt_vmem h_S8x128))
  let v47 : Vec F S1x1x128 .f32 ← Prog.lift (.load arg4 (Rect.unit (s := S1x1x2048) ![0, 0, 896] S1x1x128.size inb_S1x1x2048_S1x1x128_0_0_896).toLoadRect (View.loadsAt_vmem h_S1x1x128))
  have v48 : FVec F S1x128 .f32 := shapeCast S1x128 v47 shapeCasts_S1x1x128_S1x128
  have v49 : FVec F S8x128 .f32 := broadcastTo S8x128 v48 broadcasts_S1x128_S8x128
  have v50 : FVec F S8x128 .f32 := mulf v46 v49
  let v51 : Vec F S8x128 .f32 ← Prog.lift (.load arg7 (Rect.unit (s := S128x2048) ![o, 1024] S8x128.size (inb7 o 8 ho (by decide))).toLoadRect (View.loadsAt_vmem h_S8x128))
  let v52 : Vec F S1x1x128 .f32 ← Prog.lift (.load arg4 (Rect.unit (s := S1x1x2048) ![0, 0, 1024] S1x1x128.size inb_S1x1x2048_S1x1x128_0_0_1024).toLoadRect (View.loadsAt_vmem h_S1x1x128))
  have v53 : FVec F S1x128 .f32 := shapeCast S1x128 v52 shapeCasts_S1x1x128_S1x128
  have v54 : FVec F S8x128 .f32 := broadcastTo S8x128 v53 broadcasts_S1x128_S8x128
  have v55 : FVec F S8x128 .f32 := mulf v51 v54
  let v56 : Vec F S8x128 .f32 ← Prog.lift (.load arg7 (Rect.unit (s := S128x2048) ![o, 1152] S8x128.size (inb7 o 9 ho (by decide))).toLoadRect (View.loadsAt_vmem h_S8x128))
  let v57 : Vec F S1x1x128 .f32 ← Prog.lift (.load arg4 (Rect.unit (s := S1x1x2048) ![0, 0, 1152] S1x1x128.size inb_S1x1x2048_S1x1x128_0_0_1152).toLoadRect (View.loadsAt_vmem h_S1x1x128))
  have v58 : FVec F S1x128 .f32 := shapeCast S1x128 v57 shapeCasts_S1x1x128_S1x128
  have v59 : FVec F S8x128 .f32 := broadcastTo S8x128 v58 broadcasts_S1x128_S8x128
  have v60 : FVec F S8x128 .f32 := mulf v56 v59
  let v61 : Vec F S8x128 .f32 ← Prog.lift (.load arg7 (Rect.unit (s := S128x2048) ![o, 1280] S8x128.size (inb7 o 10 ho (by decide))).toLoadRect (View.loadsAt_vmem h_S8x128))
  let v62 : Vec F S1x1x128 .f32 ← Prog.lift (.load arg4 (Rect.unit (s := S1x1x2048) ![0, 0, 1280] S1x1x128.size inb_S1x1x2048_S1x1x128_0_0_1280).toLoadRect (View.loadsAt_vmem h_S1x1x128))
  have v63 : FVec F S1x128 .f32 := shapeCast S1x128 v62 shapeCasts_S1x1x128_S1x128
  have v64 : FVec F S8x128 .f32 := broadcastTo S8x128 v63 broadcasts_S1x128_S8x128
  have v65 : FVec F S8x128 .f32 := mulf v61 v64
  let v66 : Vec F S8x128 .f32 ← Prog.lift (.load arg7 (Rect.unit (s := S128x2048) ![o, 1408] S8x128.size (inb7 o 11 ho (by decide))).toLoadRect (View.loadsAt_vmem h_S8x128))
  let v67 : Vec F S1x1x128 .f32 ← Prog.lift (.load arg4 (Rect.unit (s := S1x1x2048) ![0, 0, 1408] S1x1x128.size inb_S1x1x2048_S1x1x128_0_0_1408).toLoadRect (View.loadsAt_vmem h_S1x1x128))
  have v68 : FVec F S1x128 .f32 := shapeCast S1x128 v67 shapeCasts_S1x1x128_S1x128
  have v69 : FVec F S8x128 .f32 := broadcastTo S8x128 v68 broadcasts_S1x128_S8x128
  have v70 : FVec F S8x128 .f32 := mulf v66 v69
  let v71 : Vec F S8x128 .f32 ← Prog.lift (.load arg7 (Rect.unit (s := S128x2048) ![o, 1536] S8x128.size (inb7 o 12 ho (by decide))).toLoadRect (View.loadsAt_vmem h_S8x128))
  let v72 : Vec F S1x1x128 .f32 ← Prog.lift (.load arg4 (Rect.unit (s := S1x1x2048) ![0, 0, 1536] S1x1x128.size inb_S1x1x2048_S1x1x128_0_0_1536).toLoadRect (View.loadsAt_vmem h_S1x1x128))
  have v73 : FVec F S1x128 .f32 := shapeCast S1x128 v72 shapeCasts_S1x1x128_S1x128
  have v74 : FVec F S8x128 .f32 := broadcastTo S8x128 v73 broadcasts_S1x128_S8x128
  have v75 : FVec F S8x128 .f32 := mulf v71 v74
  let v76 : Vec F S8x128 .f32 ← Prog.lift (.load arg7 (Rect.unit (s := S128x2048) ![o, 1664] S8x128.size (inb7 o 13 ho (by decide))).toLoadRect (View.loadsAt_vmem h_S8x128))
  let v77 : Vec F S1x1x128 .f32 ← Prog.lift (.load arg4 (Rect.unit (s := S1x1x2048) ![0, 0, 1664] S1x1x128.size inb_S1x1x2048_S1x1x128_0_0_1664).toLoadRect (View.loadsAt_vmem h_S1x1x128))
  have v78 : FVec F S1x128 .f32 := shapeCast S1x128 v77 shapeCasts_S1x1x128_S1x128
  have v79 : FVec F S8x128 .f32 := broadcastTo S8x128 v78 broadcasts_S1x128_S8x128
  have v80 : FVec F S8x128 .f32 := mulf v76 v79
  let v81 : Vec F S8x128 .f32 ← Prog.lift (.load arg7 (Rect.unit (s := S128x2048) ![o, 1792] S8x128.size (inb7 o 14 ho (by decide))).toLoadRect (View.loadsAt_vmem h_S8x128))
  let v82 : Vec F S1x1x128 .f32 ← Prog.lift (.load arg4 (Rect.unit (s := S1x1x2048) ![0, 0, 1792] S1x1x128.size inb_S1x1x2048_S1x1x128_0_0_1792).toLoadRect (View.loadsAt_vmem h_S1x1x128))
  have v83 : FVec F S1x128 .f32 := shapeCast S1x128 v82 shapeCasts_S1x1x128_S1x128
  have v84 : FVec F S8x128 .f32 := broadcastTo S8x128 v83 broadcasts_S1x128_S8x128
  have v85 : FVec F S8x128 .f32 := mulf v81 v84
  let v86 : Vec F S8x128 .f32 ← Prog.lift (.load arg7 (Rect.unit (s := S128x2048) ![o, 1920] S8x128.size (inb7 o 15 ho (by decide))).toLoadRect (View.loadsAt_vmem h_S8x128))
  let v87 : Vec F S1x1x128 .f32 ← Prog.lift (.load arg4 (Rect.unit (s := S1x1x2048) ![0, 0, 1920] S1x1x128.size inb_S1x1x2048_S1x1x128_0_0_1920).toLoadRect (View.loadsAt_vmem h_S1x1x128))
  have v88 : FVec F S1x128 .f32 := shapeCast S1x128 v87 shapeCasts_S1x1x128_S1x128
  have v89 : FVec F S8x128 .f32 := broadcastTo S8x128 v88 broadcasts_S1x128_S8x128
  have v90 : FVec F S8x128 .f32 := mulf v86 v89
  let v91 : Vec F S1x8x128 .f32 ← Prog.lift (.load arg8 (Rect.unit (s := S16x128x128) ![0, o, 0] S1x8x128.size (inb8 0 o (by decide) ho)).toLoadRect (View.loadsAt_vmem h_S1x8x128))
  have v92 : FVec F S8x128 .f32 := shapeCast S8x128 v91 shapeCasts_S1x8x128_S8x128
  let v93 : Vec F S1x8x128 .f32 ← Prog.lift (.load arg8 (Rect.unit (s := S16x128x128) ![1, o, 0] S1x8x128.size (inb8 1 o (by decide) ho)).toLoadRect (View.loadsAt_vmem h_S1x8x128))
  have v94 : FVec F S8x128 .f32 := shapeCast S8x128 v93 shapeCasts_S1x8x128_S8x128
  let v95 : Vec F S1x8x128 .f32 ← Prog.lift (.load arg8 (Rect.unit (s := S16x128x128) ![2, o, 0] S1x8x128.size (inb8 2 o (by decide) ho)).toLoadRect (View.loadsAt_vmem h_S1x8x128))
  have v96 : FVec F S8x128 .f32 := shapeCast S8x128 v95 shapeCasts_S1x8x128_S8x128
  let v97 : Vec F S1x8x128 .f32 ← Prog.lift (.load arg8 (Rect.unit (s := S16x128x128) ![3, o, 0] S1x8x128.size (inb8 3 o (by decide) ho)).toLoadRect (View.loadsAt_vmem h_S1x8x128))
  have v98 : FVec F S8x128 .f32 := shapeCast S8x128 v97 shapeCasts_S1x8x128_S8x128
  let v99 : Vec F S1x8x128 .f32 ← Prog.lift (.load arg8 (Rect.unit (s := S16x128x128) ![4, o, 0] S1x8x128.size (inb8 4 o (by decide) ho)).toLoadRect (View.loadsAt_vmem h_S1x8x128))
  have v100 : FVec F S8x128 .f32 := shapeCast S8x128 v99 shapeCasts_S1x8x128_S8x128
  let v101 : Vec F S1x8x128 .f32 ← Prog.lift (.load arg8 (Rect.unit (s := S16x128x128) ![5, o, 0] S1x8x128.size (inb8 5 o (by decide) ho)).toLoadRect (View.loadsAt_vmem h_S1x8x128))
  have v102 : FVec F S8x128 .f32 := shapeCast S8x128 v101 shapeCasts_S1x8x128_S8x128
  let v103 : Vec F S1x8x128 .f32 ← Prog.lift (.load arg8 (Rect.unit (s := S16x128x128) ![6, o, 0] S1x8x128.size (inb8 6 o (by decide) ho)).toLoadRect (View.loadsAt_vmem h_S1x8x128))
  have v104 : FVec F S8x128 .f32 := shapeCast S8x128 v103 shapeCasts_S1x8x128_S8x128
  let v105 : Vec F S1x8x128 .f32 ← Prog.lift (.load arg8 (Rect.unit (s := S16x128x128) ![7, o, 0] S1x8x128.size (inb8 7 o (by decide) ho)).toLoadRect (View.loadsAt_vmem h_S1x8x128))
  have v106 : FVec F S8x128 .f32 := shapeCast S8x128 v105 shapeCasts_S1x8x128_S8x128
  let v107 : Vec F S1x8x128 .f32 ← Prog.lift (.load arg8 (Rect.unit (s := S16x128x128) ![8, o, 0] S1x8x128.size (inb8 8 o (by decide) ho)).toLoadRect (View.loadsAt_vmem h_S1x8x128))
  have v108 : FVec F S8x128 .f32 := shapeCast S8x128 v107 shapeCasts_S1x8x128_S8x128
  let v109 : Vec F S1x8x128 .f32 ← Prog.lift (.load arg8 (Rect.unit (s := S16x128x128) ![9, o, 0] S1x8x128.size (inb8 9 o (by decide) ho)).toLoadRect (View.loadsAt_vmem h_S1x8x128))
  have v110 : FVec F S8x128 .f32 := shapeCast S8x128 v109 shapeCasts_S1x8x128_S8x128
  let v111 : Vec F S1x8x128 .f32 ← Prog.lift (.load arg8 (Rect.unit (s := S16x128x128) ![10, o, 0] S1x8x128.size (inb8 10 o (by decide) ho)).toLoadRect (View.loadsAt_vmem h_S1x8x128))
  have v112 : FVec F S8x128 .f32 := shapeCast S8x128 v111 shapeCasts_S1x8x128_S8x128
  let v113 : Vec F S1x8x128 .f32 ← Prog.lift (.load arg8 (Rect.unit (s := S16x128x128) ![11, o, 0] S1x8x128.size (inb8 11 o (by decide) ho)).toLoadRect (View.loadsAt_vmem h_S1x8x128))
  have v114 : FVec F S8x128 .f32 := shapeCast S8x128 v113 shapeCasts_S1x8x128_S8x128
  let v115 : Vec F S1x8x128 .f32 ← Prog.lift (.load arg8 (Rect.unit (s := S16x128x128) ![12, o, 0] S1x8x128.size (inb8 12 o (by decide) ho)).toLoadRect (View.loadsAt_vmem h_S1x8x128))
  have v116 : FVec F S8x128 .f32 := shapeCast S8x128 v115 shapeCasts_S1x8x128_S8x128
  let v117 : Vec F S1x8x128 .f32 ← Prog.lift (.load arg8 (Rect.unit (s := S16x128x128) ![13, o, 0] S1x8x128.size (inb8 13 o (by decide) ho)).toLoadRect (View.loadsAt_vmem h_S1x8x128))
  have v118 : FVec F S8x128 .f32 := shapeCast S8x128 v117 shapeCasts_S1x8x128_S8x128
  let v119 : Vec F S1x8x128 .f32 ← Prog.lift (.load arg8 (Rect.unit (s := S16x128x128) ![14, o, 0] S1x8x128.size (inb8 14 o (by decide) ho)).toLoadRect (View.loadsAt_vmem h_S1x8x128))
  have v120 : FVec F S8x128 .f32 := shapeCast S8x128 v119 shapeCasts_S1x8x128_S8x128
  let v121 : Vec F S1x8x128 .f32 ← Prog.lift (.load arg8 (Rect.unit (s := S16x128x128) ![15, o, 0] S1x8x128.size (inb8 15 o (by decide) ho)).toLoadRect (View.loadsAt_vmem h_S1x8x128))
  have v122 : FVec F S8x128 .f32 := shapeCast S8x128 v121 shapeCasts_S1x8x128_S8x128
  have v123 : FVec F S8x128 .f32 := maximumf v15 v20
  have v124 : FVec F S8x128 .f32 := minimumf v15 v20
  have v125 : FVec F S8x128 .f32 := maximumf v25 v30
  have v126 : FVec F S8x128 .f32 := minimumf v25 v30
  have v127 : FVec F S8x128 .f32 := maximumf v35 v40
  have v128 : FVec F S8x128 .f32 := minimumf v35 v40
  have v129 : FVec F S8x128 .f32 := maximumf v45 v50
  have v130 : FVec F S8x128 .f32 := minimumf v45 v50
  have v131 : FVec F S8x128 .f32 := maximumf v55 v60
  have v132 : FVec F S8x128 .f32 := minimumf v55 v60
  have v133 : FVec F S8x128 .f32 := maximumf v65 v70
  have v134 : FVec F S8x128 .f32 := minimumf v65 v70
  have v135 : FVec F S8x128 .f32 := maximumf v75 v80
  have v136 : FVec F S8x128 .f32 := minimumf v75 v80
  have v137 : FVec F S8x128 .f32 := maximumf v85 v90
  have v138 : FVec F S8x128 .f32 := minimumf v85 v90
  have v139 : FVec F S8x128 .f32 := maximumf v123 v125
  have v140 : FVec F S8x128 .f32 := minimumf v123 v125
  have v141 : FVec F S8x128 .f32 := maximumf v124 v126
  have v142 : FVec F S8x128 .f32 := minimumf v124 v126
  have v143 : FVec F S8x128 .f32 := maximumf v127 v129
  have v144 : FVec F S8x128 .f32 := minimumf v127 v129
  have v145 : FVec F S8x128 .f32 := maximumf v128 v130
  have v146 : FVec F S8x128 .f32 := minimumf v128 v130
  have v147 : FVec F S8x128 .f32 := maximumf v131 v133
  have v148 : FVec F S8x128 .f32 := minimumf v131 v133
  have v149 : FVec F S8x128 .f32 := maximumf v132 v134
  have v150 : FVec F S8x128 .f32 := minimumf v132 v134
  have v151 : FVec F S8x128 .f32 := maximumf v135 v137
  have v152 : FVec F S8x128 .f32 := minimumf v135 v137
  have v153 : FVec F S8x128 .f32 := maximumf v136 v138
  have v154 : FVec F S8x128 .f32 := minimumf v136 v138
  have v155 : FVec F S8x128 .f32 := maximumf v139 v143
  have v156 : FVec F S8x128 .f32 := minimumf v139 v143
  have v157 : FVec F S8x128 .f32 := maximumf v141 v145
  have v158 : FVec F S8x128 .f32 := minimumf v141 v145
  have v159 : FVec F S8x128 .f32 := maximumf v140 v144
  have v160 : FVec F S8x128 .f32 := minimumf v140 v144
  have v161 : FVec F S8x128 .f32 := maximumf v142 v146
  have v162 : FVec F S8x128 .f32 := minimumf v142 v146
  have v163 : FVec F S8x128 .f32 := maximumf v147 v151
  have v164 : FVec F S8x128 .f32 := minimumf v147 v151
  have v165 : FVec F S8x128 .f32 := maximumf v149 v153
  have v166 : FVec F S8x128 .f32 := minimumf v149 v153
  have v167 : FVec F S8x128 .f32 := maximumf v148 v152
  have v168 : FVec F S8x128 .f32 := minimumf v148 v152
  have v169 : FVec F S8x128 .f32 := maximumf v150 v154
  have v170 : FVec F S8x128 .f32 := minimumf v150 v154
  have v171 : FVec F S8x128 .f32 := maximumf v155 v163
  have v172 : FVec F S8x128 .f32 := minimumf v155 v163
  have v173 : FVec F S8x128 .f32 := maximumf v157 v165
  have v174 : FVec F S8x128 .f32 := minimumf v157 v165
  have v175 : FVec F S8x128 .f32 := maximumf v159 v167
  have v176 : FVec F S8x128 .f32 := minimumf v159 v167
  have v177 : FVec F S8x128 .f32 := maximumf v161 v169
  have v178 : FVec F S8x128 .f32 := minimumf v161 v169
  have v179 : FVec F S8x128 .f32 := maximumf v156 v164
  have v180 : FVec F S8x128 .f32 := minimumf v156 v164
  have v181 : FVec F S8x128 .f32 := maximumf v158 v166
  have v182 : FVec F S8x128 .f32 := minimumf v158 v166
  have v183 : FVec F S8x128 .f32 := maximumf v160 v168
  have v184 : FVec F S8x128 .f32 := minimumf v160 v168
  have v185 : FVec F S8x128 .f32 := maximumf v162 v170
  have v186 : FVec F S8x128 .f32 := minimumf v162 v170
  have v187 : FVec F S8x128 .f32 := maximumf v181 v176
  have v188 : FVec F S8x128 .f32 := minimumf v181 v176
  have v189 : FVec F S8x128 .f32 := maximumf v183 v174
  have v190 : FVec F S8x128 .f32 := minimumf v183 v174
  have v191 : FVec F S8x128 .f32 := maximumf v177 v180
  have v192 : FVec F S8x128 .f32 := minimumf v177 v180
  have v193 : FVec F S8x128 .f32 := maximumf v182 v184
  have v194 : FVec F S8x128 .f32 := minimumf v182 v184
  have v195 : FVec F S8x128 .f32 := maximumf v179 v172
  have v196 : FVec F S8x128 .f32 := minimumf v179 v172
  have v197 : FVec F S8x128 .f32 := maximumf v185 v178
  have v198 : FVec F S8x128 .f32 := minimumf v185 v178
  have v199 : FVec F S8x128 .f32 := maximumf v173 v175
  have v200 : FVec F S8x128 .f32 := minimumf v173 v175
  have v201 : FVec F S8x128 .f32 := maximumf v199 v195
  have v202 : FVec F S8x128 .f32 := minimumf v199 v195
  have v203 : FVec F S8x128 .f32 := maximumf v197 v193
  have v204 : FVec F S8x128 .f32 := minimumf v197 v193
  have v205 : FVec F S8x128 .f32 := maximumf v200 v196
  have v206 : FVec F S8x128 .f32 := minimumf v200 v196
  have v207 : FVec F S8x128 .f32 := maximumf v198 v194
  have v208 : FVec F S8x128 .f32 := minimumf v198 v194
  have v209 : FVec F S8x128 .f32 := maximumf v205 v202
  have v210 : FVec F S8x128 .f32 := minimumf v205 v202
  have v211 : FVec F S8x128 .f32 := maximumf v187 v189
  have v212 : FVec F S8x128 .f32 := minimumf v187 v189
  have v213 : FVec F S8x128 .f32 := maximumf v190 v188
  have v214 : FVec F S8x128 .f32 := minimumf v190 v188
  have v215 : FVec F S8x128 .f32 := maximumf v207 v204
  have v216 : FVec F S8x128 .f32 := minimumf v207 v204
  have v217 : FVec F S8x128 .f32 := maximumf v191 v206
  have v218 : FVec F S8x128 .f32 := minimumf v191 v206
  have v219 : FVec F S8x128 .f32 := maximumf v203 v192
  have v220 : FVec F S8x128 .f32 := minimumf v203 v192
  have v221 : FVec F S8x128 .f32 := maximumf v212 v218
  have v222 : FVec F S8x128 .f32 := minimumf v212 v218
  have v223 : FVec F S8x128 .f32 := maximumf v214 v220
  have v224 : FVec F S8x128 .f32 := minimumf v214 v220
  have v225 : FVec F S8x128 .f32 := maximumf v217 v211
  have v226 : FVec F S8x128 .f32 := minimumf v217 v211
  have v227 : FVec F S8x128 .f32 := maximumf v219 v213
  have v228 : FVec F S8x128 .f32 := minimumf v219 v213
  have v229 : FVec F S8x128 .f32 := maximumf v225 v210
  have v230 : FVec F S8x128 .f32 := minimumf v225 v210
  have v231 : FVec F S8x128 .f32 := maximumf v226 v221
  have v232 : FVec F S8x128 .f32 := minimumf v226 v221
  have v233 : FVec F S8x128 .f32 := maximumf v227 v222
  have v234 : FVec F S8x128 .f32 := minimumf v227 v222
  have v235 : FVec F S8x128 .f32 := maximumf v228 v223
  have v236 : FVec F S8x128 .f32 := minimumf v228 v223
  have v237 : FVec F S8x128 .f32 := maximumf v215 v224
  have v238 : FVec F S8x128 .f32 := minimumf v215 v224
  have v239 : FVec F S8x128 .f32 := maximumf v232 v233
  have v240 : FVec F S8x128 .f32 := minimumf v232 v233
  have v241 : FVec F S8x128 .f32 := maximumf v234 v235
  have v242 : FVec F S8x128 .f32 := minimumf v234 v235
  have v243 : FVec F S8x128 .f32 := maximumf v92 v186
  have v244 : FVec F S8x128 .f32 := maximumf v94 v208
  have v245 : FVec F S8x128 .f32 := maximumf v96 v216
  have v246 : FVec F S8x128 .f32 := maximumf v98 v238
  have v247 : FVec F S8x128 .f32 := maximumf v100 v237
  have v248 : FVec F S8x128 .f32 := maximumf v102 v236
  have v249 : FVec F S8x128 .f32 := maximumf v104 v242
  have v250 : FVec F S8x128 .f32 := maximumf v106 v241
  have v251 : FVec F S8x128 .f32 := maximumf v108 v240
  have v252 : FVec F S8x128 .f32 := maximumf v110 v239
  have v253 : FVec F S8x128 .f32 := maximumf v112 v231
  have v254 : FVec F S8x128 .f32 := maximumf v114 v230
  have v255 : FVec F S8x128 .f32 := maximumf v116 v229
  have v256 : FVec F S8x128 .f32 := maximumf v118 v209
  have v257 : FVec F S8x128 .f32 := maximumf v120 v201
  have v258 : FVec F S8x128 .f32 := maximumf v122 v171
  have v259 : FVec F S8x128 .f32 := maximumf v243 v251
  have v260 : FVec F S8x128 .f32 := minimumf v243 v251
  have v261 : FVec F S8x128 .f32 := maximumf v244 v252
  have v262 : FVec F S8x128 .f32 := minimumf v244 v252
  have v263 : FVec F S8x128 .f32 := maximumf v245 v253
  have v264 : FVec F S8x128 .f32 := minimumf v245 v253
  have v265 : FVec F S8x128 .f32 := maximumf v246 v254
  have v266 : FVec F S8x128 .f32 := minimumf v246 v254
  have v267 : FVec F S8x128 .f32 := maximumf v247 v255
  have v268 : FVec F S8x128 .f32 := minimumf v247 v255
  have v269 : FVec F S8x128 .f32 := maximumf v248 v256
  have v270 : FVec F S8x128 .f32 := minimumf v248 v256
  have v271 : FVec F S8x128 .f32 := maximumf v249 v257
  have v272 : FVec F S8x128 .f32 := minimumf v249 v257
  have v273 : FVec F S8x128 .f32 := maximumf v250 v258
  have v274 : FVec F S8x128 .f32 := minimumf v250 v258
  have v275 : FVec F S8x128 .f32 := maximumf v259 v267
  have v276 : FVec F S8x128 .f32 := minimumf v259 v267
  have v277 : FVec F S8x128 .f32 := maximumf v261 v269
  have v278 : FVec F S8x128 .f32 := minimumf v261 v269
  have v279 : FVec F S8x128 .f32 := maximumf v263 v271
  have v280 : FVec F S8x128 .f32 := minimumf v263 v271
  have v281 : FVec F S8x128 .f32 := maximumf v265 v273
  have v282 : FVec F S8x128 .f32 := minimumf v265 v273
  have v283 : FVec F S8x128 .f32 := maximumf v260 v268
  have v284 : FVec F S8x128 .f32 := minimumf v260 v268
  have v285 : FVec F S8x128 .f32 := maximumf v262 v270
  have v286 : FVec F S8x128 .f32 := minimumf v262 v270
  have v287 : FVec F S8x128 .f32 := maximumf v264 v272
  have v288 : FVec F S8x128 .f32 := minimumf v264 v272
  have v289 : FVec F S8x128 .f32 := maximumf v266 v274
  have v290 : FVec F S8x128 .f32 := minimumf v266 v274
  have v291 : FVec F S8x128 .f32 := maximumf v275 v279
  have v292 : FVec F S8x128 .f32 := minimumf v275 v279
  have v293 : FVec F S8x128 .f32 := maximumf v277 v281
  have v294 : FVec F S8x128 .f32 := minimumf v277 v281
  have v295 : FVec F S8x128 .f32 := maximumf v276 v280
  have v296 : FVec F S8x128 .f32 := minimumf v276 v280
  have v297 : FVec F S8x128 .f32 := maximumf v278 v282
  have v298 : FVec F S8x128 .f32 := minimumf v278 v282
  have v299 : FVec F S8x128 .f32 := maximumf v283 v287
  have v300 : FVec F S8x128 .f32 := minimumf v283 v287
  have v301 : FVec F S8x128 .f32 := maximumf v285 v289
  have v302 : FVec F S8x128 .f32 := minimumf v285 v289
  have v303 : FVec F S8x128 .f32 := maximumf v284 v288
  have v304 : FVec F S8x128 .f32 := minimumf v284 v288
  have v305 : FVec F S8x128 .f32 := maximumf v286 v290
  have v306 : FVec F S8x128 .f32 := minimumf v286 v290
  have v307 : FVec F S8x128 .f32 := maximumf v291 v293
  have v308 : FVec F S8x128 .f32 := minimumf v291 v293
  have v309 : FVec F S8x128 .f32 := maximumf v292 v294
  have v310 : FVec F S8x128 .f32 := minimumf v292 v294
  have v311 : FVec F S8x128 .f32 := maximumf v295 v297
  have v312 : FVec F S8x128 .f32 := minimumf v295 v297
  have v313 : FVec F S8x128 .f32 := maximumf v296 v298
  have v314 : FVec F S8x128 .f32 := minimumf v296 v298
  have v315 : FVec F S8x128 .f32 := maximumf v299 v301
  have v316 : FVec F S8x128 .f32 := minimumf v299 v301
  have v317 : FVec F S8x128 .f32 := maximumf v300 v302
  have v318 : FVec F S8x128 .f32 := minimumf v300 v302
  have v319 : FVec F S8x128 .f32 := maximumf v303 v305
  have v320 : FVec F S8x128 .f32 := minimumf v303 v305
  have v321 : FVec F S8x128 .f32 := maximumf v304 v306
  have v322 : FVec F S8x128 .f32 := minimumf v304 v306
  let v323 : Vec F S1x8x128 .f32 ← Prog.lift (.load arg8 (Rect.unit (s := S16x128x128) ![0, o, 0] S1x8x128.size (inb8 0 o (by decide) ho)).toLoadRect (View.loadsAt_vmem h_S1x8x128))
  have v324 : FVec F S8x128 .f32 := shapeCast S8x128 v323 shapeCasts_S1x8x128_S8x128
  have v325 : FVec F S1x8x128 .f32 := shapeCast S1x8x128 v307 shapeCasts_S8x128_S1x8x128
  Prog.lift (.store arg8 (Rect.unit (s := S16x128x128) ![0, o, 0] S1x8x128.size (inb8 0 o (by decide) ho)) v325 Finset.univ (View.stores_vmem_bits_univ h_S1x8x128 rfl) (.inl rfl))
  let v326 : Vec F S1x8x128 .f32 ← Prog.lift (.load arg8 (Rect.unit (s := S16x128x128) ![1, o, 0] S1x8x128.size (inb8 1 o (by decide) ho)).toLoadRect (View.loadsAt_vmem h_S1x8x128))
  have v327 : FVec F S8x128 .f32 := shapeCast S8x128 v326 shapeCasts_S1x8x128_S8x128
  have v328 : FVec F S1x8x128 .f32 := shapeCast S1x8x128 v308 shapeCasts_S8x128_S1x8x128
  Prog.lift (.store arg8 (Rect.unit (s := S16x128x128) ![1, o, 0] S1x8x128.size (inb8 1 o (by decide) ho)) v328 Finset.univ (View.stores_vmem_bits_univ h_S1x8x128 rfl) (.inl rfl))
  let v329 : Vec F S1x8x128 .f32 ← Prog.lift (.load arg8 (Rect.unit (s := S16x128x128) ![2, o, 0] S1x8x128.size (inb8 2 o (by decide) ho)).toLoadRect (View.loadsAt_vmem h_S1x8x128))
  have v330 : FVec F S8x128 .f32 := shapeCast S8x128 v329 shapeCasts_S1x8x128_S8x128
  have v331 : FVec F S1x8x128 .f32 := shapeCast S1x8x128 v309 shapeCasts_S8x128_S1x8x128
  Prog.lift (.store arg8 (Rect.unit (s := S16x128x128) ![2, o, 0] S1x8x128.size (inb8 2 o (by decide) ho)) v331 Finset.univ (View.stores_vmem_bits_univ h_S1x8x128 rfl) (.inl rfl))
  let v332 : Vec F S1x8x128 .f32 ← Prog.lift (.load arg8 (Rect.unit (s := S16x128x128) ![3, o, 0] S1x8x128.size (inb8 3 o (by decide) ho)).toLoadRect (View.loadsAt_vmem h_S1x8x128))
  have v333 : FVec F S8x128 .f32 := shapeCast S8x128 v332 shapeCasts_S1x8x128_S8x128
  have v334 : FVec F S1x8x128 .f32 := shapeCast S1x8x128 v310 shapeCasts_S8x128_S1x8x128
  Prog.lift (.store arg8 (Rect.unit (s := S16x128x128) ![3, o, 0] S1x8x128.size (inb8 3 o (by decide) ho)) v334 Finset.univ (View.stores_vmem_bits_univ h_S1x8x128 rfl) (.inl rfl))
  let v335 : Vec F S1x8x128 .f32 ← Prog.lift (.load arg8 (Rect.unit (s := S16x128x128) ![4, o, 0] S1x8x128.size (inb8 4 o (by decide) ho)).toLoadRect (View.loadsAt_vmem h_S1x8x128))
  have v336 : FVec F S8x128 .f32 := shapeCast S8x128 v335 shapeCasts_S1x8x128_S8x128
  have v337 : FVec F S1x8x128 .f32 := shapeCast S1x8x128 v311 shapeCasts_S8x128_S1x8x128
  Prog.lift (.store arg8 (Rect.unit (s := S16x128x128) ![4, o, 0] S1x8x128.size (inb8 4 o (by decide) ho)) v337 Finset.univ (View.stores_vmem_bits_univ h_S1x8x128 rfl) (.inl rfl))
  let v338 : Vec F S1x8x128 .f32 ← Prog.lift (.load arg8 (Rect.unit (s := S16x128x128) ![5, o, 0] S1x8x128.size (inb8 5 o (by decide) ho)).toLoadRect (View.loadsAt_vmem h_S1x8x128))
  have v339 : FVec F S8x128 .f32 := shapeCast S8x128 v338 shapeCasts_S1x8x128_S8x128
  have v340 : FVec F S1x8x128 .f32 := shapeCast S1x8x128 v312 shapeCasts_S8x128_S1x8x128
  Prog.lift (.store arg8 (Rect.unit (s := S16x128x128) ![5, o, 0] S1x8x128.size (inb8 5 o (by decide) ho)) v340 Finset.univ (View.stores_vmem_bits_univ h_S1x8x128 rfl) (.inl rfl))
  let v341 : Vec F S1x8x128 .f32 ← Prog.lift (.load arg8 (Rect.unit (s := S16x128x128) ![6, o, 0] S1x8x128.size (inb8 6 o (by decide) ho)).toLoadRect (View.loadsAt_vmem h_S1x8x128))
  have v342 : FVec F S8x128 .f32 := shapeCast S8x128 v341 shapeCasts_S1x8x128_S8x128
  have v343 : FVec F S1x8x128 .f32 := shapeCast S1x8x128 v313 shapeCasts_S8x128_S1x8x128
  Prog.lift (.store arg8 (Rect.unit (s := S16x128x128) ![6, o, 0] S1x8x128.size (inb8 6 o (by decide) ho)) v343 Finset.univ (View.stores_vmem_bits_univ h_S1x8x128 rfl) (.inl rfl))
  let v344 : Vec F S1x8x128 .f32 ← Prog.lift (.load arg8 (Rect.unit (s := S16x128x128) ![7, o, 0] S1x8x128.size (inb8 7 o (by decide) ho)).toLoadRect (View.loadsAt_vmem h_S1x8x128))
  have v345 : FVec F S8x128 .f32 := shapeCast S8x128 v344 shapeCasts_S1x8x128_S8x128
  have v346 : FVec F S1x8x128 .f32 := shapeCast S1x8x128 v314 shapeCasts_S8x128_S1x8x128
  Prog.lift (.store arg8 (Rect.unit (s := S16x128x128) ![7, o, 0] S1x8x128.size (inb8 7 o (by decide) ho)) v346 Finset.univ (View.stores_vmem_bits_univ h_S1x8x128 rfl) (.inl rfl))
  let v347 : Vec F S1x8x128 .f32 ← Prog.lift (.load arg8 (Rect.unit (s := S16x128x128) ![8, o, 0] S1x8x128.size (inb8 8 o (by decide) ho)).toLoadRect (View.loadsAt_vmem h_S1x8x128))
  have v348 : FVec F S8x128 .f32 := shapeCast S8x128 v347 shapeCasts_S1x8x128_S8x128
  have v349 : FVec F S1x8x128 .f32 := shapeCast S1x8x128 v315 shapeCasts_S8x128_S1x8x128
  Prog.lift (.store arg8 (Rect.unit (s := S16x128x128) ![8, o, 0] S1x8x128.size (inb8 8 o (by decide) ho)) v349 Finset.univ (View.stores_vmem_bits_univ h_S1x8x128 rfl) (.inl rfl))
  let v350 : Vec F S1x8x128 .f32 ← Prog.lift (.load arg8 (Rect.unit (s := S16x128x128) ![9, o, 0] S1x8x128.size (inb8 9 o (by decide) ho)).toLoadRect (View.loadsAt_vmem h_S1x8x128))
  have v351 : FVec F S8x128 .f32 := shapeCast S8x128 v350 shapeCasts_S1x8x128_S8x128
  have v352 : FVec F S1x8x128 .f32 := shapeCast S1x8x128 v316 shapeCasts_S8x128_S1x8x128
  Prog.lift (.store arg8 (Rect.unit (s := S16x128x128) ![9, o, 0] S1x8x128.size (inb8 9 o (by decide) ho)) v352 Finset.univ (View.stores_vmem_bits_univ h_S1x8x128 rfl) (.inl rfl))
  let v353 : Vec F S1x8x128 .f32 ← Prog.lift (.load arg8 (Rect.unit (s := S16x128x128) ![10, o, 0] S1x8x128.size (inb8 10 o (by decide) ho)).toLoadRect (View.loadsAt_vmem h_S1x8x128))
  have v354 : FVec F S8x128 .f32 := shapeCast S8x128 v353 shapeCasts_S1x8x128_S8x128
  have v355 : FVec F S1x8x128 .f32 := shapeCast S1x8x128 v317 shapeCasts_S8x128_S1x8x128
  Prog.lift (.store arg8 (Rect.unit (s := S16x128x128) ![10, o, 0] S1x8x128.size (inb8 10 o (by decide) ho)) v355 Finset.univ (View.stores_vmem_bits_univ h_S1x8x128 rfl) (.inl rfl))
  let v356 : Vec F S1x8x128 .f32 ← Prog.lift (.load arg8 (Rect.unit (s := S16x128x128) ![11, o, 0] S1x8x128.size (inb8 11 o (by decide) ho)).toLoadRect (View.loadsAt_vmem h_S1x8x128))
  have v357 : FVec F S8x128 .f32 := shapeCast S8x128 v356 shapeCasts_S1x8x128_S8x128
  have v358 : FVec F S1x8x128 .f32 := shapeCast S1x8x128 v318 shapeCasts_S8x128_S1x8x128
  Prog.lift (.store arg8 (Rect.unit (s := S16x128x128) ![11, o, 0] S1x8x128.size (inb8 11 o (by decide) ho)) v358 Finset.univ (View.stores_vmem_bits_univ h_S1x8x128 rfl) (.inl rfl))
  let v359 : Vec F S1x8x128 .f32 ← Prog.lift (.load arg8 (Rect.unit (s := S16x128x128) ![12, o, 0] S1x8x128.size (inb8 12 o (by decide) ho)).toLoadRect (View.loadsAt_vmem h_S1x8x128))
  have v360 : FVec F S8x128 .f32 := shapeCast S8x128 v359 shapeCasts_S1x8x128_S8x128
  have v361 : FVec F S1x8x128 .f32 := shapeCast S1x8x128 v319 shapeCasts_S8x128_S1x8x128
  Prog.lift (.store arg8 (Rect.unit (s := S16x128x128) ![12, o, 0] S1x8x128.size (inb8 12 o (by decide) ho)) v361 Finset.univ (View.stores_vmem_bits_univ h_S1x8x128 rfl) (.inl rfl))
  let v362 : Vec F S1x8x128 .f32 ← Prog.lift (.load arg8 (Rect.unit (s := S16x128x128) ![13, o, 0] S1x8x128.size (inb8 13 o (by decide) ho)).toLoadRect (View.loadsAt_vmem h_S1x8x128))
  have v363 : FVec F S8x128 .f32 := shapeCast S8x128 v362 shapeCasts_S1x8x128_S8x128
  have v364 : FVec F S1x8x128 .f32 := shapeCast S1x8x128 v320 shapeCasts_S8x128_S1x8x128
  Prog.lift (.store arg8 (Rect.unit (s := S16x128x128) ![13, o, 0] S1x8x128.size (inb8 13 o (by decide) ho)) v364 Finset.univ (View.stores_vmem_bits_univ h_S1x8x128 rfl) (.inl rfl))
  let v365 : Vec F S1x8x128 .f32 ← Prog.lift (.load arg8 (Rect.unit (s := S16x128x128) ![14, o, 0] S1x8x128.size (inb8 14 o (by decide) ho)).toLoadRect (View.loadsAt_vmem h_S1x8x128))
  have v366 : FVec F S8x128 .f32 := shapeCast S8x128 v365 shapeCasts_S1x8x128_S8x128
  have v367 : FVec F S1x8x128 .f32 := shapeCast S1x8x128 v321 shapeCasts_S8x128_S1x8x128
  Prog.lift (.store arg8 (Rect.unit (s := S16x128x128) ![14, o, 0] S1x8x128.size (inb8 14 o (by decide) ho)) v367 Finset.univ (View.stores_vmem_bits_univ h_S1x8x128 rfl) (.inl rfl))
  let v368 : Vec F S1x8x128 .f32 ← Prog.lift (.load arg8 (Rect.unit (s := S16x128x128) ![15, o, 0] S1x8x128.size (inb8 15 o (by decide) ho)).toLoadRect (View.loadsAt_vmem h_S1x8x128))
  have v369 : FVec F S8x128 .f32 := shapeCast S8x128 v368 shapeCasts_S1x8x128_S8x128
  have v370 : FVec F S1x8x128 .f32 := shapeCast S1x8x128 v322 shapeCasts_S8x128_S1x8x128
  Prog.lift (.store arg8 (Rect.unit (s := S16x128x128) ![15, o, 0] S1x8x128.size (inb8 15 o (by decide) ho)) v370 Finset.univ (View.stores_vmem_bits_univ h_S1x8x128 rfl) (.inl rfl))

/-- The statements of the first grid point only: the normalized queries, and the running best started. -/
noncomputable def initP (i : grid0.Coords) (arg1 : Memref sig .tc .vmem S128x2048 .bf16) (harg1 : arg1.IsWhole) (arg2 : Memref sig .tc .vmem S1x2048 .f32) (harg2 : arg2.IsWhole) (arg3 : Memref sig .tc .vmem S2048x2048 .i8) (harg3 : arg3.IsWhole) (arg4 : Memref sig .tc .vmem S1x1x2048 .f32) (harg4 : arg4.IsWhole) (arg5 : Memref sig .tc .vmem S16x128 .f32) (harg5 : arg5.IsWhole) (arg6 : Memref sig .tc .vmem S128x2048 .bf16) (harg6 : arg6.IsWhole) (arg7 : Memref sig .tc .vmem S128x2048 .f32) (harg7 : arg7.IsWhole) (arg8 : Memref sig .tc .vmem S16x128x128 .f32) (harg8 : arg8.IsWhole) :
    Prog (TpuEff nD τ sig (Elt F) Λ₀ .tc) PUnit := do
  let v5774 : Vec F S128x2048 .bf16 ← Prog.lift (.load arg1 (Rect.unit (s := S128x2048) ![0, 0] S128x2048.size inb_S128x2048_S128x2048_0_0).toLoadRect (View.loadsAt_vmem h_S128x2048))
  have v5775 : FVec F S128x2048 .bf16 := shapeCast S128x2048 v5774 shapeCasts_S128x2048_S128x2048
  have v5776 : FVec F S128x2048 .f32 := extf .f32 v5775 bitsLt_bf16_f32
  have v5777 : FVec F S128x2048 .f32 := mulf v5776 v5776
  have cst_2781 : FVec F S128 .f32 := constant S128 .f32 0x00000000#32
  have v5778 : FVec F S128 .f32 := multiReduction .add [1] S128 v5777 0x00000000#32 reduces_S128x2048_S128 (.inl rfl) rfl
  have v5779 : FVec F S128x1 .f32 := shapeCast S128x1 v5778 shapeCasts_S128_S128x1
  have cst_2782 : F .f32 := Scalar.ofBits .f32 0x45000000#32
  have v5780 : FVec F S128x1 .f32 := broadcast S128x1 cst_2782
  have v5781 : FVec F S128x1 .f32 := divf v5779 v5780
  have cst_2783 : F .f32 := Scalar.ofBits .f32 0x358637BD#32
  have v5782 : FVec F S128x1 .f32 := broadcast S128x1 cst_2783
  have v5783 : FVec F S128x1 .f32 := addf v5781 v5782
  have v5784 : FVec F S128x1 .f32 := rsqrt v5783
  have v5785 : FVec F S128x2048 .f32 := broadcastTo S128x2048 v5784 broadcasts_S128x1_S128x2048
  have v5786 : FVec F S128x2048 .f32 := mulf v5776 v5785
  let v5787 : Vec F S1x2048 .f32 ← Prog.lift (.load arg2 (Rect.unit (s := S1x2048) ![0, 0] S1x2048.size inb_S1x2048_S1x2048_0_0).toLoadRect (View.loadsAt_vmem h_S1x2048))
  have v5788 : FVec F S1x2048 .f32 := shapeCast S1x2048 v5787 shapeCasts_S1x2048_S1x2048
  have v5789 : FVec F S128x2048 .f32 := broadcastTo S128x2048 v5788 broadcasts_S1x2048_S128x2048
  have v5790 : FVec F S128x2048 .f32 := mulf v5786 v5789
  have v5791 : FVec F S128x2048 .bf16 := truncf .bf16 v5790 bitsLt_bf16_f32
  let v5792 : Vec F S128x2048 .bf16 ← Prog.lift (.load arg6 (Rect.unit (s := S128x2048) ![0, 0] S128x2048.size inb_S128x2048_S128x2048_0_0).toLoadRect (View.loadsAt_vmem h_S128x2048))
  Prog.lift (.store arg6 (Rect.unit (s := S128x2048) ![0, 0] S128x2048.size inb_S128x2048_S128x2048_0_0) v5791 Finset.univ (View.stores_vmem h_S128x2048 (harg6.storeExact_slice rfl _ packedbf16_S128x2048_S128x2048_0_0) (fun _ => rfl)) (.inl rfl))
  have cst_2788 : F .f32 := Scalar.ofBits .f32 0xFF800000#32
  have v5793 : FVec F S16x128x128 .f32 := broadcast S16x128x128 cst_2788
  let v5794 : Vec F S16x128x128 .f32 ← Prog.lift (.load arg8 (Rect.unit (s := S16x128x128) ![0, 0, 0] S16x128x128.size inb_S16x128x128_S16x128x128_0_0_0).toLoadRect (View.loadsAt_vmem h_S16x128x128))
  have v5795 : FVec F S16x128x128 .f32 := shapeCast S16x128x128 v5794 shapeCasts_S16x128x128_S16x128x128
  have v5796 : FVec F S16x128x128 .f32 := shapeCast S16x128x128 v5793 shapeCasts_S16x128x128_S16x128x128
  Prog.lift (.store arg8 (Rect.unit (s := S16x128x128) ![0, 0, 0] S16x128x128.size inb_S16x128x128_S16x128x128_0_0_0) v5796 Finset.univ (View.stores_vmem_bits_univ h_S16x128x128 rfl) (.inl rfl))
  pure ⟨⟩

/-- The statements before the first group at every grid point: the scores of this block of database rows. -/
noncomputable def scoreP (i : grid0.Coords) (arg1 : Memref sig .tc .vmem S128x2048 .bf16) (harg1 : arg1.IsWhole) (arg2 : Memref sig .tc .vmem S1x2048 .f32) (harg2 : arg2.IsWhole) (arg3 : Memref sig .tc .vmem S2048x2048 .i8) (harg3 : arg3.IsWhole) (arg4 : Memref sig .tc .vmem S1x1x2048 .f32) (harg4 : arg4.IsWhole) (arg5 : Memref sig .tc .vmem S16x128 .f32) (harg5 : arg5.IsWhole) (arg6 : Memref sig .tc .vmem S128x2048 .bf16) (harg6 : arg6.IsWhole) (arg7 : Memref sig .tc .vmem S128x2048 .f32) (harg7 : arg7.IsWhole) (arg8 : Memref sig .tc .vmem S16x128x128 .f32) (harg8 : arg8.IsWhole) :
    Prog (TpuEff nD τ sig (Elt F) Λ₀ .tc) PUnit := do
  let v3 : Vec F S128x2048 .bf16 ← Prog.lift (.load arg6 (Rect.unit (s := S128x2048) ![0, 0] S128x2048.size inb_S128x2048_S128x2048_0_0).toLoadRect (View.loadsAt_vmem h_S128x2048))
  have v4 : FVec F S128x2048 .bf16 := shapeCast S128x2048 v3 shapeCasts_S128x2048_S128x2048
  let v5 : Vec F S2048x2048 .i8 ← Prog.lift (.load arg3 (Rect.unit (s := S2048x2048) ![0, 0] S2048x2048.size inb_S2048x2048_S2048x2048_0_0).toLoadRect (View.loadsAt_vmem h_S2048x2048))
  have v6 : FVec F S2048x2048 .bf16 := sitofp .bf16 v5
  have cst : FVec F S128x2048 .f32 := constant S128x2048 .f32 0x00000000#32
  have v7 : FVec F S128x2048 .f32 := matmul dot_S128x2048_S2048x2048_S128x2048_1_1_0_0_n_n none v4 v6 cst
  let v8 : Vec F S128x2048 .f32 ← Prog.lift (.load arg7 (Rect.unit (s := S128x2048) ![0, 0] S128x2048.size inb_S128x2048_S128x2048_0_0).toLoadRect (View.loadsAt_vmem h_S128x2048))
  have v9 : FVec F S128x2048 .f32 := shapeCast S128x2048 v8 shapeCasts_S128x2048_S128x2048
  have v10 : FVec F S128x2048 .f32 := shapeCast S128x2048 v7 shapeCasts_S128x2048_S128x2048
  Prog.lift (.store arg7 (Rect.unit (s := S128x2048) ![0, 0] S128x2048.size inb_S128x2048_S128x2048_0_0) v10 Finset.univ (View.stores_vmem_bits_univ h_S128x2048 rfl) (.inl rfl))

/-- The statements after the last group: at the last grid point the final merge. -/
noncomputable def tailP (i : grid0.Coords) (arg1 : Memref sig .tc .vmem S128x2048 .bf16) (harg1 : arg1.IsWhole) (arg2 : Memref sig .tc .vmem S1x2048 .f32) (harg2 : arg2.IsWhole) (arg3 : Memref sig .tc .vmem S2048x2048 .i8) (harg3 : arg3.IsWhole) (arg4 : Memref sig .tc .vmem S1x1x2048 .f32) (harg4 : arg4.IsWhole) (arg5 : Memref sig .tc .vmem S16x128 .f32) (harg5 : arg5.IsWhole) (arg6 : Memref sig .tc .vmem S128x2048 .bf16) (harg6 : arg6.IsWhole) (arg7 : Memref sig .tc .vmem S128x2048 .f32) (harg7 : arg7.IsWhole) (arg8 : Memref sig .tc .vmem S16x128x128 .f32) (harg8 : arg8.IsWhole) :
    Prog (TpuEff nD τ sig (Elt F) Λ₀ .tc) PUnit := do
  if k0_h2 : k0_cond2 i = 1#1 then do
    let ⟨v7551, v7552, v7553, v7554, v7555, v7556, v7557, v7558, v7559, v7560, v7561, v7562, v7563, v7564, v7565, v7566⟩ : Σ' (v7551 : FVec F S8x128 .f32) (v7552 : FVec F S8x128 .f32) (v7553 : FVec F S8x128 .f32) (v7554 : FVec F S8x128 .f32) (v7555 : FVec F S8x128 .f32) (v7556 : FVec F S8x128 .f32) (v7557 : FVec F S8x128 .f32) (v7558 : FVec F S8x128 .f32) (v7559 : FVec F S8x128 .f32) (v7560 : FVec F S8x128 .f32) (v7561 : FVec F S8x128 .f32) (v7562 : FVec F S8x128 .f32) (v7563 : FVec F S8x128 .f32) (v7564 : FVec F S8x128 .f32) (v7565 : FVec F S8x128 .f32), FVec F S1x128 .f32 ← k0_part32 i arg1 harg1 arg2 harg2 arg3 harg3 arg4 harg4 arg5 harg5 arg6 harg6 arg7 harg7 arg8 harg8
    have v7567 : FVec F S1x128 .f32 := extractStridedSlice S1x128 ![0, 0] v7551 slices_S8x128_o0_0_S1x128
    have v7568 : FVec F S1x128 .f32 := extractStridedSlice S1x128 ![0, 0] v7552 slices_S8x128_o0_0_S1x128
    have v7569 : FVec F S1x128 .f32 := extractStridedSlice S1x128 ![0, 0] v7553 slices_S8x128_o0_0_S1x128
    have v7570 : FVec F S1x128 .f32 := extractStridedSlice S1x128 ![0, 0] v7554 slices_S8x128_o0_0_S1x128
    have v7571 : FVec F S1x128 .f32 := extractStridedSlice S1x128 ![0, 0] v7555 slices_S8x128_o0_0_S1x128
    have v7572 : FVec F S1x128 .f32 := extractStridedSlice S1x128 ![0, 0] v7556 slices_S8x128_o0_0_S1x128
    have v7573 : FVec F S1x128 .f32 := extractStridedSlice S1x128 ![0, 0] v7557 slices_S8x128_o0_0_S1x128
    have v7574 : FVec F S1x128 .f32 := extractStridedSlice S1x128 ![0, 0] v7558 slices_S8x128_o0_0_S1x128
    have v7575 : FVec F S1x128 .f32 := extractStridedSlice S1x128 ![0, 0] v7559 slices_S8x128_o0_0_S1x128
    have v7576 : FVec F S1x128 .f32 := extractStridedSlice S1x128 ![0, 0] v7560 slices_S8x128_o0_0_S1x128
    have v7577 : FVec F S1x128 .f32 := extractStridedSlice S1x128 ![0, 0] v7561 slices_S8x128_o0_0_S1x128
    have v7578 : FVec F S1x128 .f32 := extractStridedSlice S1x128 ![0, 0] v7562 slices_S8x128_o0_0_S1x128
    have v7579 : FVec F S1x128 .f32 := extractStridedSlice S1x128 ![0, 0] v7563 slices_S8x128_o0_0_S1x128
    have v7580 : FVec F S1x128 .f32 := extractStridedSlice S1x128 ![0, 0] v7564 slices_S8x128_o0_0_S1x128
    have v7581 : FVec F S1x128 .f32 := extractStridedSlice S1x128 ![0, 0] v7565 slices_S8x128_o0_0_S1x128
    have v7582 : FVec F S16x128 .f32 := concatenate S16x128 0 [⟨S1x128, v7566⟩, ⟨S1x128, v7567⟩, ⟨S1x128, v7568⟩, ⟨S1x128, v7569⟩, ⟨S1x128, v7570⟩, ⟨S1x128, v7571⟩, ⟨S1x128, v7572⟩, ⟨S1x128, v7573⟩, ⟨S1x128, v7574⟩, ⟨S1x128, v7575⟩, ⟨S1x128, v7576⟩, ⟨S1x128, v7577⟩, ⟨S1x128, v7578⟩, ⟨S1x128, v7579⟩, ⟨S1x128, v7580⟩, ⟨S1x128, v7581⟩] concatenates_S1x128_S1x128_S1x128_S1x128_S1x128_S1x128_S1x128_S1x128_S1x128_S1x128_S1x128_S1x128_S1x128_S1x128_S1x128_S1x128_S16x128_d0
    let v7583 : Vec F S16x128 .f32 ← Prog.lift (.load arg5 (Rect.unit (s := S16x128) ![0, 0] S16x128.size inb_S16x128_S16x128_0_0).toLoadRect (View.loadsAt_vmem h_S16x128))
    Prog.lift (.store arg5 (Rect.unit (s := S16x128) ![0, 0] S16x128.size inb_S16x128_S16x128_0_0) v7582 Finset.univ (View.stores_vmem_bits_univ h_S16x128 rfl) (.inl rfl))
    pure ⟨⟩
  else do
    pure ⟨⟩
  pure ⟨⟩

/-- The body regrouped, without the statements of the first grid point. -/
noncomputable def restP (i : grid0.Coords) (arg1 : Memref sig .tc .vmem S128x2048 .bf16) (harg1 : arg1.IsWhole) (arg2 : Memref sig .tc .vmem S1x2048 .f32) (harg2 : arg2.IsWhole) (arg3 : Memref sig .tc .vmem S2048x2048 .i8) (harg3 : arg3.IsWhole) (arg4 : Memref sig .tc .vmem S1x1x2048 .f32) (harg4 : arg4.IsWhole) (arg5 : Memref sig .tc .vmem S16x128 .f32) (harg5 : arg5.IsWhole) (arg6 : Memref sig .tc .vmem S128x2048 .bf16) (harg6 : arg6.IsWhole) (arg7 : Memref sig .tc .vmem S128x2048 .f32) (harg7 : arg7.IsWhole) (arg8 : Memref sig .tc .vmem S16x128x128 .f32) (harg8 : arg8.IsWhole) :
    Prog (TpuEff nD τ sig (Elt F) Λ₀ .tc) PUnit := do
  scoreP i arg1 harg1 arg2 harg2 arg3 harg3 arg4 harg4 arg5 harg5 arg6 harg6 arg7 harg7 arg8 harg8
  groupP arg4 arg7 arg8 0 (by decide)
  groupP arg4 arg7 arg8 8 (by decide)
  groupP arg4 arg7 arg8 16 (by decide)
  groupP arg4 arg7 arg8 24 (by decide)
  groupP arg4 arg7 arg8 32 (by decide)
  groupP arg4 arg7 arg8 40 (by decide)
  groupP arg4 arg7 arg8 48 (by decide)
  groupP arg4 arg7 arg8 56 (by decide)
  groupP arg4 arg7 arg8 64 (by decide)
  groupP arg4 arg7 arg8 72 (by decide)
  groupP arg4 arg7 arg8 80 (by decide)
  groupP arg4 arg7 arg8 88 (by decide)
  groupP arg4 arg7 arg8 96 (by decide)
  groupP arg4 arg7 arg8 104 (by decide)
  groupP arg4 arg7 arg8 112 (by decide)
  groupP arg4 arg7 arg8 120 (by decide)
  tailP i arg1 harg1 arg2 harg2 arg3 harg3 arg4 harg4 arg5 harg5 arg6 harg6 arg7 harg7 arg8 harg8

end Cert.KernelIdeal.Body

end
-- ==== Proof.Net.lean ====
/-
  Compare-exchange networks on sixteen values, for any pair of operations `mx` (the greater) and `mn` (the lesser): the
  network of sixty exchanges that sorts sixteen values, greatest first, and the merge of two such sorted lists.
-/
module

public import Mathlib.Data.Fin.Basic
public import Mathlib.Data.Fin.Rev

@[expose] public section

namespace Cert.Net

universe u v

variable {α : Type u} {β : Type v}

/-- One exchange: position `c.1` is left the greater of the two, position `c.2` the lesser. -/
def step (mx mn : α → α → α) (c : Fin 16 × Fin 16) (x : Fin 16 → α) : Fin 16 → α := fun k =>
  if k = c.1 then mx (x c.1) (x c.2) else if k = c.2 then mn (x c.1) (x c.2) else x k

/-- The exchanges of a list, first to last. -/
def run (mx mn : α → α → α) : List (Fin 16 × Fin 16) → (Fin 16 → α) → Fin 16 → α
  | [], x => x
  | c :: cs, x => run mx mn cs (step mx mn c x)

/-- The sorting network: sixty exchanges in ten layers. -/
def green : List (Fin 16 × Fin 16) :=
  [(0, 1), (2, 3), (4, 5), (6, 7), (8, 9), (10, 11), (12, 13), (14, 15),
   (0, 2), (1, 3), (4, 6), (5, 7), (8, 10), (9, 11), (12, 14), (13, 15),
   (0, 4), (1, 5), (2, 6), (3, 7), (8, 12), (9, 13), (10, 14), (11, 15),
   (0, 8), (1, 9), (2, 10), (3, 11), (4, 12), (5, 13), (6, 14), (7, 15),
   (5, 10), (6, 9), (3, 12), (13, 14), (4, 8), (7, 11), (1, 2),
   (1, 4), (7, 13), (2, 8), (11, 14),
   (2, 4), (5, 6), (9, 10), (11, 13), (3, 8), (7, 12),
   (6, 8), (10, 12), (3, 5), (7, 9),
   (3, 4), (5, 6), (7, 8), (9, 10), (11, 12),
   (6, 7), (8, 9)]

/-- The exchanges that sort a bitonic list of sixteen: distances eight, four, two, one. -/
def bitonic : List (Fin 16 × Fin 16) :=
  [(0, 8), (1, 9), (2, 10), (3, 11), (4, 12), (5, 13), (6, 14), (7, 15),
   (0, 4), (1, 5), (2, 6), (3, 7), (8, 12), (9, 13), (10, 14), (11, 15),
   (0, 2), (1, 3), (4, 6), (5, 7), (8, 10), (9, 11), (12, 14), (13, 15),
   (0, 1), (2, 3), (4, 5), (6, 7), (8, 9), (10, 11), (12, 13), (14, 15)]

/-- Sixteen values sorted. -/
def sort16 (mx mn : α → α → α) (x : Fin 16 → α) : Fin 16 → α := run mx mn green x

/-- The sixteen greatest of two sorted lists, sorted: the greater of entry `t` of one and entry `15 - t` of the other,
    then the exchanges. -/
def merge16 (mx mn : α → α → α) (a b : Fin 16 → α) : Fin 16 → α :=
  run mx mn bitonic fun t => mx (a t) (b t.rev)

/-- A map that commutes with both operations commutes with an exchange, -/
theorem map_step (f : α → β) (mx mn : α → α → α) (mx' mn' : β → β → β) (hx : ∀ a b, f (mx a b) = mx' (f a) (f b))
    (hn : ∀ a b, f (mn a b) = mn' (f a) (f b)) (c : Fin 16 × Fin 16) (x : Fin 16 → α) :
    (fun t => f (step mx mn c x t)) = step mx' mn' c (fun t => f (x t)) := by
  funext t; unfold step; split
  · exact hx _ _
  · split
    · exact hn _ _
    · rfl

/-- with a list of exchanges, -/
theorem map_run (f : α → β) (mx mn : α → α → α) (mx' mn' : β → β → β) (hx : ∀ a b, f (mx a b) = mx' (f a) (f b))
    (hn : ∀ a b, f (mn a b) = mn' (f a) (f b)) (cs : List (Fin 16 × Fin 16)) (x : Fin 16 → α) :
    (fun t => f (run mx mn cs x t)) = run mx' mn' cs (fun t => f (x t)) := by
  induction cs generalizing x with
  | nil => rfl
  | cons c cs ih => exact (ih _).trans (congrArg _ (map_step f mx mn mx' mn' hx hn c x))

/-- with the sort, -/
theorem map_sort16 (f : α → β) (mx mn : α → α → α) (mx' mn' : β → β → β) (hx : ∀ a b, f (mx a b) = mx' (f a) (f b))
    (hn : ∀ a b, f (mn a b) = mn' (f a) (f b)) (x : Fin 16 → α) :
    (fun t => f (sort16 mx mn x t)) = sort16 mx' mn' (fun t => f (x t)) := map_run f mx mn mx' mn' hx hn _ _

/-- and with the merge. -/
theorem map_merge16 (f : α → β) (mx mn : α → α → α) (mx' mn' : β → β → β) (hx : ∀ a b, f (mx a b) = mx' (f a) (f b))
    (hn : ∀ a b, f (mn a b) = mn' (f a) (f b)) (a b : Fin 16 → α) :
    (fun t => f (merge16 mx mn a b t)) = merge16 mx' mn' (fun t => f (a t)) (fun t => f (b t)) :=
  (map_run f mx mn mx' mn' hx hn _ _).trans (congrArg _ (funext fun t => hx _ _))

end Cert.Net
-- ==== Proof.Group.lean ====
/-
  One group of eight query rows, stated over its sixteen column tiles: the new scores of each tile are loaded and scaled,
  the running best's sixteen planes are loaded, the new values are sorted and merged into the best, and the sixteen planes
  are stored. The group's printed statements are these, tile after tile.
-/
module

public import proofs.«01_k».proof.Proof.Body
public import proofs.«01_k».proof.Proof.Net

@[expose] public section

noncomputable section

namespace Cert.KernelIdeal.Body

open Cert.KernelIdeal Cert.KernelIdeal.Gen Cert.Net
open Idealize.ShloMosaic Idealize.ShloMosaic.TcCoe
open Idealize.SL Idealize.SL.Sem

variable {F : FTy → Type} [FloatOps F]

/-- A family with entry `t` replaced. -/
def upd {α : Type} (v : Fin 16 → α) (t : Fin 16) (a : α) : Fin 16 → α := fun k => if k = t then a else v k

/-- The sixteen tiles in order. -/
def tiles : List (Fin 16) := [0, 1, 2, 3, 4, 5, 6, 7, 8, 9, 10, 11, 12, 13, 14, 15]

/-- The columns of tile `t` lie in the scales. -/
theorem inb4 (t : Nat) (ht : t < 16) : ∀ a, (![0, 0, 128 * t] : Fin 3 → Nat) a + S1x1x128.size a ≤ S1x1x2048.size a := by
  intro a
  match a with
  | 0 => exact Nat.le_refl 1
  | 1 => exact Nat.le_refl 1
  | 2 => show 128 * t + 128 ≤ 2048; omega

/-- Rows `o` to `o + 7` and the columns of tile `t`. -/
abbrev rect7 (o : Nat) (ho : o + 8 ≤ 128) (t : Fin 16) : Rect S128x2048 :=
  Rect.unit (s := S128x2048) ![o, 128 * t.val] S8x128.size (inb7 o t.val ho t.isLt)
/-- The columns of tile `t`. -/
abbrev rect4 (t : Fin 16) : Rect S1x1x2048 := Rect.unit (s := S1x1x2048) ![0, 0, 128 * t.val] S1x1x128.size (inb4 t.val t.isLt)
/-- Rows `o` to `o + 7` of plane `t`. -/
abbrev rect8 (o : Nat) (ho : o + 8 ≤ 128) (t : Fin 16) : Rect S16x128x128 :=
  Rect.unit (s := S16x128x128) ![t.val, o, 0] S1x8x128.size (inb8 t.val o t.isLt ho)

/-- The scaled scores of one tile, from what the two loads return. -/
abbrev scaled (a : Vec F S8x128 .f32) (b : Vec F S1x1x128 .f32) : Vec F S8x128 .f32 :=
  mulf a (broadcastTo S8x128 (shapeCast S1x128 b shapeCasts_S1x1x128_S1x128) broadcasts_S1x128_S8x128)

/-- The new scores of the listed tiles, loaded and scaled. -/
def loadNew (arg4 : Memref sig .tc .vmem S1x1x2048 .f32) (arg7 : Memref sig .tc .vmem S128x2048 .f32) (o : Nat) (ho : o + 8 ≤ 128) :
    List (Fin 16) → (Fin 16 → Vec F S8x128 .f32) → Prog (TpuEff nD τ sig (Elt F) Λ₀ .tc) (Fin 16 → Vec F S8x128 .f32)
  | [], v => pure v
  | t :: ts, v => do
    let a : Vec F S8x128 .f32 ← Prog.lift (.load arg7 (rect7 o ho t).toLoadRect (View.loadsAt_vmem h_S8x128))
    let b : Vec F S1x1x128 .f32 ← Prog.lift (.load arg4 (rect4 t).toLoadRect (View.loadsAt_vmem h_S1x1x128))
    loadNew arg4 arg7 o ho ts (upd v t (scaled a b))

/-- The listed planes of the running best, loaded. -/
def loadBest (arg8 : Memref sig .tc .vmem S16x128x128 .f32) (o : Nat) (ho : o + 8 ≤ 128) :
    List (Fin 16) → (Fin 16 → Vec F S8x128 .f32) → Prog (TpuEff nD τ sig (Elt F) Λ₀ .tc) (Fin 16 → Vec F S8x128 .f32)
  | [], v => pure v
  | t :: ts, v => do
    let a : Vec F S1x8x128 .f32 ← Prog.lift (.load arg8 (rect8 o ho t).toLoadRect (View.loadsAt_vmem h_S1x8x128))
    loadBest arg8 o ho ts (upd v t (shapeCast S8x128 a shapeCasts_S1x8x128_S8x128))

/-- The listed planes stored. -/
def storeBest (arg8 : Memref sig .tc .vmem S16x128x128 .f32) (o : Nat) (ho : o + 8 ≤ 128) (w : Fin 16 → Vec F S8x128 .f32) :
    List (Fin 16) → Prog (TpuEff nD τ sig (Elt F) Λ₀ .tc) PUnit
  | [] => pure ⟨⟩
  | t :: ts => do
    let _ : Vec F S1x8x128 .f32 ← Prog.lift (.load arg8 (rect8 o ho t).toLoadRect (View.loadsAt_vmem h_S1x8x128))
    Prog.lift (.store arg8 (rect8 o ho t) (shapeCast S1x8x128 (w t) shapeCasts_S8x128_S1x8x128) Finset.univ (View.stores_vmem_bits_univ h_S1x8x128 rfl) (.inl rfl))
    storeBest arg8 o ho w ts

/-- A vector of the group's shape, to start a family from. -/
abbrev vec0 : Vec F S8x128 .f32 := constant S8x128 .f32 0x00000000#32

/-- The group over its tiles. -/
def groupS (arg4 : Memref sig .tc .vmem S1x1x2048 .f32) (arg7 : Memref sig .tc .vmem S128x2048 .f32) (arg8 : Memref sig .tc .vmem S16x128x128 .f32)
    (o : Nat) (ho : o + 8 ≤ 128) : Prog (TpuEff nD τ sig (Elt F) Λ₀ .tc) PUnit := do
  let new ← loadNew arg4 arg7 o ho tiles (fun _ => vec0)
  let old ← loadBest arg8 o ho tiles (fun _ => vec0)
  storeBest arg8 o ho (merge16 maximumf minimumf old (sort16 maximumf minimumf new)) tiles

set_option maxRecDepth 100000 in
set_option maxHeartbeats 0 in
/-- The group's printed statements are these. -/
theorem groupP_eq (arg4 : Memref sig .tc .vmem S1x1x2048 .f32) (arg7 : Memref sig .tc .vmem S128x2048 .f32) (arg8 : Memref sig .tc .vmem S16x128x128 .f32)
    (o : Nat) (ho : o + 8 ≤ 128) : groupP (F := F) arg4 arg7 arg8 o ho = groupS arg4 arg7 arg8 o ho := by
  rfl

end Cert.KernelIdeal.Body

end
-- ==== Proof.Rules.lean ====
/-
  Loads and stores of a part of a memref held whole: a load returns the part of what the memref reads, a store leaves the
  memref reading the same with the part replaced.
-/
module

public import proofs.«01_k».proof.Proof.Gen.KernelIdeal.Frame
public import Idealize.ShloMosaic.Lib.Memref

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) {sh : Shape} {e : EltTy} {α : Type}

/-- The TensorCore of device `c` holds the memref `m`, all of it, reading `X`. -/
abbrev has (m : Memref sig .tc .vmem sh e) (X : sh.Idx → Elt F e) : sProp 𝕄 := owns (c : Thread nD τ) m fullShare X

/-- A load returns the part of what the memref reads. -/
theorem wp_load_has (m : Memref sig .tc .vmem sh e) (X : sh.Idx → Elt F e) (r : Rect sh) (hl : m.view.LoadsAt r.toLoadRect)
    (k : (r.shape.Idx → Elt F e) → Prog (TpuEff nD τ sig (Elt F) Λ₀ .tc) α) (Q : α → sProp 𝕄) :
    has c m X ⊢ iprop((has c m X -∗ wp frame (wpE (defs₀ (F := F)) Variants.none c none) Set.univ (k fun j => X (r.emb j)) Q)
      -∗ wp frame (wpE (defs₀ (F := F)) Variants.none c none) Set.univ (Prog.lift (.load m r.toLoadRect hl) >>= k) Q) := by
  iintro H Hk
  ihave H' := (show has c m X ⊢ iprop(∃ g, ⌜m.view.read (Elt F) g = X⌝ ∗ m.view.loc (c : Thread nD τ) ↦[m.view.set]{fullShare} g) from .rfl) $$ H
  icases H' with ⟨%g, %hg, H⟩
  have hS : m.view.setOn r.toLoadRect.set ⊆ m.view.set := Finset.map_subset_map.mpr (Finset.subset_univ _)
  iapply (wp_load (defs := defs₀ (F := F)) Variants.none (c : Thread nD τ) none Set.univ hS) $$ [H]
  · iexact H
  iintro H
  have he : m.view.readAt (Elt F) r.toLoadRect g = fun j => X (r.emb j) := by subst hg; rfl
  rw [he]
  iapply Hk
  iapply (show iprop(∃ g, ⌜m.view.read (Elt F) g = X⌝ ∗ m.view.loc (c : Thread nD τ) ↦[m.view.set]{fullShare} g) ⊢ has c m X from .rfl)
  iexists g
  isplitr; · ipureintro; exact hg
  iexact H

/-- A store leaves the memref reading the same with the part replaced. -/
theorem wp_store_has (m : Memref sig .tc .vmem sh e) (X : sh.Idx → Elt F e) (r : Rect sh) (w : r.shape.Idx → Elt F e)
    (hx : (m.access r).Stores Finset.univ) (hm : Finset.univ = Finset.univ ∨ ∀ a, r.stride a = 1)
    (k : PUnit → Prog (TpuEff nD τ sig (Elt F) Λ₀ .tc) α) (Q : α → sProp 𝕄) :
    has c m X ⊢ iprop((has c m (r.overlay X w) -∗ wp frame (wpE (defs₀ (F := F)) Variants.none c none) Set.univ (k ⟨⟩) Q)
      -∗ wp frame (wpE (defs₀ (F := F)) Variants.none c none) Set.univ (Prog.lift (.store m r w Finset.univ hx hm) >>= k) Q) := by
  iintro H Hk
  ihave H' := (show has c m X ⊢ iprop(∃ g, ⌜m.view.read (Elt F) g = X⌝ ∗ m.view.loc (c : Thread nD τ) ↦[m.view.set]{fullShare} g) from .rfl) $$ H
  icases H' with ⟨%g, %hg, H⟩
  have hS : (m.access r).setOn Finset.univ ⊆ m.view.set := by
    show (m.view.slice r).set ⊆ _
    exact View.set_slice_subset _ _
  iapply (wp_store (defs := defs₀ (F := F)) Variants.none (c : Thread nD τ) none Set.univ hS) $$ [H]
  · iexact H
  iintro H
  iapply Hk
  iapply (show iprop(∃ g, ⌜m.view.read (Elt F) g = r.overlay X w⌝ ∗ m.view.loc (c : Thread nD τ) ↦[m.view.set]{fullShare} g) ⊢ has c m (r.overlay X w) from .rfl)
  iexists _
  isplitr
  rotate_left
  · iexact H
  ipureintro
  subst hg
  funext j
  by_cases hj : j ∈ r.set
  · obtain ⟨i, rfl⟩ := r.exists_idx_of_mem hj
    change m.view.read (Elt F) _ (r.emb i) = r.overlay _ w (r.emb i)
    rw [Rect.overlay_emb]
    exact View.read_slice_write_emb r g w (Finset.mem_univ i)
  · rw [Rect.overlay_of_not_mem _ _ _ hj]
    exact View.read_slice_write_of_not_mem r g w Finset.univ (by rw [Rect.map_emb_univ]; exact hj)

end Cert.KernelIdeal.Body

end
-- ==== Proof.GroupRun.lean ====
/-
  What one group of eight query rows does to the running best: at each of its rows and at each of the 128 lanes, the sixteen
  best values so far are merged with the sixteen new scores of that lane, one from each column tile, sorted.
-/
module

public import proofs.«01_k».proof.Proof.Group
public import proofs.«01_k».proof.Proof.Rules
public import Idealize.ShloMosaic.Lib.ValueIdxCore
public import Idealize.ShloMosaic.Lib.WritesUnit
public import Idealize.ShloMosaic.Lib.Pipeline.Value

@[expose] public section

noncomputable section

namespace Cert.KernelIdeal.Body

open Cert.KernelIdeal Cert.KernelIdeal.Gen Cert.Net
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open ValueIdx (ix1 ix2 ix3)

variable {F : FTy → Type} [FloatOps F]

local notation "𝕄" => MT nD τ sig Unit (Elt F) ℕ (UR sig nD τ) ℕ

/-! ### Replacing a unit-stride part -/

/-- Inside the part, the new values, -/
theorem overlay_unit {s : Shape} {α : Type} {off size : Fin s.rank → ℕ} (inb : ∀ a, off a + size a ≤ s.size a) (X : s.Idx → α)
    (w : (Rect.unit off size inb).shape.Idx → α) (y : s.Idx) (h : ∀ a, off a ≤ (y a).val ∧ (y a).val < off a + size a) :
    (Rect.unit off size inb).overlay X w y = w (Rect.unitLocal (s := s) (off := off) (size := size) y h) := by
  have e : (Rect.unit off size inb).emb (Rect.unitLocal (s := s) (off := off) (size := size) y h) = y := by
    funext a; apply Fin.ext
    show off a + 1 * ((y a).val - off a) = (y a).val
    have := h a; omega
  conv_lhs => rw [← e]
  exact Rect.overlay_emb _ _ _ _

/-- outside it, the old. -/
theorem overlay_unit_not {s : Shape} {α : Type} {off size : Fin s.rank → ℕ} (inb : ∀ a, off a + size a ≤ s.size a) (X : s.Idx → α)
    (w : (Rect.unit off size inb).shape.Idx → α) (y : s.Idx) (h : ¬ ∀ a, off a ≤ (y a).val ∧ (y a).val < off a + size a) :
    (Rect.unit off size inb).overlay X w y = X y := by
  refine Rect.overlay_of_not_mem _ _ _ fun hm => h ?_
  obtain ⟨i, hi⟩ := (Rect.unit off size inb).exists_idx_of_mem hm
  subst hi
  intro a
  show off a ≤ off a + 1 * (i a).val ∧ off a + 1 * (i a).val < off a + size a
  have : (i a).val < size a := (i a).isLt
  omega

/-! ### The values -/

/-- Column `l` of column tile `k`. -/
def col (k : Fin 16) (l : Fin 128) : Fin 2048 := ⟨128 * k.val + l.val, by have := k.isLt; have := l.isLt; omega⟩

/-- The running best after a block of scores `S` with scales `D`. -/
def nextBest (S : S128x2048.Idx → F .f32) (D : S1x1x2048.Idx → F .f32) (B : S16x128x128.Idx → F .f32) : S16x128x128.Idx → F .f32 :=
  fun j => merge16 FloatOps.maximumf FloatOps.minimumf (fun k => B (ix3 k (j 1) (j 2)))
    (sort16 FloatOps.maximumf FloatOps.minimumf fun k => FloatOps.mulf (S (ix2 (j 1) (col k (j 2)))) (D (ix3 0 0 (col k (j 2))))) (j 0)

/-- The running best when the rows below `o` have had the block's scores merged in. -/
def partBest (S : S128x2048.Idx → F .f32) (D : S1x1x2048.Idx → F .f32) (B : S16x128x128.Idx → F .f32) (o : Nat) : S16x128x128.Idx → F .f32 :=
  fun j => if (j 1).val < o then nextBest S D B j else B j

/-- What the group's loads make of one tile: its scaled scores, -/
def newOf (S : S128x2048.Idx → F .f32) (D : S1x1x2048.Idx → F .f32) (o : Nat) (ho : o + 8 ≤ 128) (t : Fin 16) : Vec F S8x128 .f32 :=
  scaled (fun j => S ((rect7 o ho t).emb j)) (fun j => D ((rect4 t).emb j))

/-- and the best's plane. -/
def oldOf (B : S16x128x128.Idx → F .f32) (o : Nat) (ho : o + 8 ≤ 128) (t : Fin 16) : Vec F S8x128 .f32 :=
  shapeCast S8x128 (fun j => B ((rect8 o ho t).emb j)) shapeCasts_S1x8x128_S8x128

/-- The entries of a list written into a family. -/
def fill {α : Type} (f : Fin 16 → α) : List (Fin 16) → (Fin 16 → α) → Fin 16 → α
  | [], v => v
  | t :: ts, v => fill f ts (upd v t (f t))

theorem fill_apply {α : Type} (f : Fin 16 → α) (ts : List (Fin 16)) (v : Fin 16 → α) (k : Fin 16) :
    fill f ts v k = if k ∈ ts then f k else v k := by
  induction ts generalizing v with
  | nil => rfl
  | cons t ts ih =>
    show fill f ts (upd v t (f t)) k = _
    rw [ih]
    by_cases h : k ∈ ts
    · rw [if_pos h, if_pos (List.mem_cons_of_mem _ h)]
    · rw [if_neg h]
      by_cases e : k = t
      · subst e; rw [if_pos (List.mem_cons_self ..)]; exact if_pos rfl
      · rw [if_neg (by simp [h, e])]; exact if_neg e

theorem mem_tiles (k : Fin 16) : k ∈ tiles := by revert k; decide

theorem fill_tiles {α : Type} (f v : Fin 16 → α) : fill f tiles v = f := funext fun k => by rw [fill_apply, if_pos (mem_tiles k)]

/-- The planes of a list replaced in the rows of a group. -/
def puts (o : Nat) (ho : o + 8 ≤ 128) (w : Fin 16 → Vec F S8x128 .f32) : List (Fin 16) → (S16x128x128.Idx → F .f32) → S16x128x128.Idx → F .f32
  | [], X => X
  | t :: ts, X => puts o ho w ts ((rect8 o ho t).overlay X (shapeCast S1x8x128 (w t) shapeCasts_S8x128_S1x8x128))

theorem puts_apply (o : Nat) (ho : o + 8 ≤ 128) (w : Fin 16 → Vec F S8x128 .f32) (ts : List (Fin 16)) (X : S16x128x128.Idx → F .f32)
    (t : Fin 16) (r : Fin 128) (l : Fin 128) :
    puts o ho w ts X (ix3 t r l) = if h : t ∈ ts ∧ o ≤ r.val ∧ r.val < o + 8 then w t (ix2 ⟨r.val - o, by omega⟩ l) else X (ix3 t r l) := by
  induction ts generalizing X with
  | nil => rw [dif_neg (by simp)]; rfl
  | cons u ts ih =>
    show puts o ho w ts _ _ = _
    rw [ih]
    by_cases h : t ∈ ts ∧ o ≤ r.val ∧ r.val < o + 8
    · rw [dif_pos h, dif_pos ⟨List.mem_cons_of_mem _ h.1, h.2⟩]
    · rw [dif_neg h]
      by_cases e : t = u ∧ o ≤ r.val ∧ r.val < o + 8
      · obtain ⟨rfl, h1, h2⟩ := e
        rw [dif_pos ⟨List.mem_cons_self .., h1, h2⟩]
        rw [overlay_unit _ _ _ _ (fun a => by
          match a with
          | ⟨0, _⟩ => exact ⟨Nat.le_refl _, Nat.lt_succ_self _⟩
          | ⟨1, _⟩ => exact ⟨h1, h2⟩
          | ⟨2, _⟩ => exact ⟨Nat.zero_le _, by show l.val < 0 + 128; omega⟩)]
        refine (shapeCast_addUnit_apply _ _ _ _).trans (congrArg (w t) ?_)
        funext a
        match a with
        | ⟨0, _⟩ => rfl
        | ⟨1, _⟩ => rfl
      · rw [dif_neg (by
          rintro ⟨hm, h12⟩
          rcases List.mem_cons.mp hm with hm | hm
          · exact e ⟨hm, h12⟩
          · exact h ⟨hm, h12⟩)]
        refine overlay_unit_not _ _ _ _ fun ha => e ?_
        have h0 := ha 0
        have h1 := ha 1
        have h0' : u.val ≤ t.val ∧ t.val < u.val + 1 := h0
        have h1' : o ≤ r.val ∧ r.val < o + 8 := h1
        exact ⟨Fin.ext (by omega), h1'⟩

/-- A tile's scaled score at a row and a lane. -/
theorem newOf_apply (S : S128x2048.Idx → F .f32) (D : S1x1x2048.Idx → F .f32) (o : Nat) (ho : o + 8 ≤ 128) (t : Fin 16) (r : Fin 8) (l : Fin 128) :
    newOf S D o ho t (ix2 r l) = FloatOps.mulf (S (ix2 ⟨o + r.val, by omega⟩ (col t l))) (D (ix3 0 0 (col t l))) := by
  show FloatOps.mulf _ _ = _
  congr 1
  · refine congrArg S (funext fun a => Fin.ext ?_)
    match a with
    | ⟨0, _⟩ => show o + 1 * r.val = o + r.val; omega
    | ⟨1, _⟩ => show 128 * t.val + 1 * l.val = 128 * t.val + l.val; omega
  · refine (broadcastTo_apply _ _ _ (ix2 0 l) fun a => ?_).trans ?_
    · match a with
      | ⟨0, _⟩ => rfl
      | ⟨1, _⟩ => rfl
    · refine (shapeCast_dropUnit_apply _ _ _ _).trans (congrArg D (funext fun a => Fin.ext ?_))
      match a with
      | ⟨0, _⟩ => rfl
      | ⟨1, _⟩ => rfl
      | ⟨2, _⟩ => show 128 * t.val + 1 * l.val = 128 * t.val + l.val; omega

/-- A plane's best at a row and a lane. -/
theorem oldOf_apply (B : S16x128x128.Idx → F .f32) (o : Nat) (ho : o + 8 ≤ 128) (t : Fin 16) (r : Fin 8) (l : Fin 128) :
    oldOf B o ho t (ix2 r l) = B (ix3 t ⟨o + r.val, by omega⟩ l) := by
  refine (shapeCast_dropUnit_apply _ _ _ _).trans (congrArg B (funext fun a => Fin.ext ?_))
  match a with
  | ⟨0, _⟩ => show t.val + 1 * 0 = t.val; omega
  | ⟨1, _⟩ => show o + 1 * r.val = o + r.val; omega
  | ⟨2, _⟩ => show 0 + 1 * l.val = l.val; omega

/-- The group moves the best from the rows below `o` done to the rows below `o + 8` done. -/
theorem puts_partBest (S : S128x2048.Idx → F .f32) (D : S1x1x2048.Idx → F .f32) (B : S16x128x128.Idx → F .f32) (o : Nat) (ho : o + 8 ≤ 128) :
    puts o ho (merge16 maximumf minimumf (oldOf (partBest S D B o) o ho) (sort16 maximumf minimumf (newOf S D o ho))) tiles (partBest S D B o)
      = partBest S D B (o + 8) := by
  funext j
  obtain ⟨t, r, l, rfl⟩ : ∃ (t : Fin 16) (r l : Fin 128), j = ix3 t r l := ⟨j 0, j 1, j 2, ValueIdx.eq_ix3 j⟩
  rw [puts_apply]
  by_cases h : o ≤ r.val ∧ r.val < o + 8
  · rw [dif_pos ⟨mem_tiles _, h⟩]
    have e1 := congrFun (map_merge16 (fun v : Vec F S8x128 .f32 => v (ix2 ⟨r.val - o, by omega⟩ l)) maximumf minimumf FloatOps.maximumf FloatOps.minimumf
      (fun _ _ => rfl) (fun _ _ => rfl) (oldOf (partBest S D B o) o ho) (sort16 maximumf minimumf (newOf S D o ho))) t
    refine e1.trans ?_
    rw [map_sort16 (fun v : Vec F S8x128 .f32 => v (ix2 ⟨r.val - o, by omega⟩ l)) maximumf minimumf FloatOps.maximumf FloatOps.minimumf
      (fun _ _ => rfl) (fun _ _ => rfl)]
    have hr : (⟨o + (r.val - o), by omega⟩ : Fin 128) = r := Fin.ext (by show o + (r.val - o) = r.val; omega)
    have e2 : (fun k => oldOf (partBest S D B o) o ho k (ix2 ⟨r.val - o, by omega⟩ l)) = fun k => B (ix3 k r l) := by
      funext k
      rw [oldOf_apply]
      show partBest S D B o (ix3 k ⟨o + (r.val - o), _⟩ l) = _
      rw [hr]
      exact if_neg (by show ¬ r.val < o; omega)
    have e3 : (fun k => newOf S D o ho k (ix2 ⟨r.val - o, by omega⟩ l)) = fun k => FloatOps.mulf (S (ix2 r (col k l))) (D (ix3 0 0 (col k l))) := by
      funext k
      rw [newOf_apply]
      show FloatOps.mulf (S (ix2 ⟨o + (r.val - o), _⟩ _)) _ = _
      rw [hr]
    rw [e2, e3]
    exact (if_pos (show r.val < o + 8 from h.2)).symm
  · rw [dif_neg (fun hh => h hh.2)]
    show (if r.val < o then _ else _) = if r.val < o + 8 then _ else _
    by_cases h1 : r.val < o
    · rw [if_pos h1, if_pos (by omega)]
    · rw [if_neg h1, if_neg (by omega)]

/-! ### The run -/

variable (c : Dev nD) {α : Type}

theorem wp_loadNew (arg4 : Memref sig .tc .vmem S1x1x2048 .f32) (arg7 : Memref sig .tc .vmem S128x2048 .f32) (o : Nat) (ho : o + 8 ≤ 128)
    (S : S128x2048.Idx → F .f32) (D : S1x1x2048.Idx → F .f32) (ts : List (Fin 16)) (v : Fin 16 → Vec F S8x128 .f32)
    (k : (Fin 16 → Vec F S8x128 .f32) → Prog (TpuEff nD τ sig (Elt F) Λ₀ .tc) α) (Q : α → sProp 𝕄) :
    iprop(has c arg4 D ∗ has c arg7 S ∗ (iprop(has c arg4 D ∗ has c arg7 S) -∗ wp frame (wpE (defs₀ (F := F)) Variants.none c none) Set.univ (k (fill (newOf S D o ho) ts v)) Q))
      ⊢ wp frame (wpE (defs₀ (F := F)) Variants.none c none) Set.univ (loadNew arg4 arg7 o ho ts v >>= k) Q := by
  induction ts generalizing v with
  | nil =>
    show _ ⊢ wp frame _ Set.univ (k v) Q
    iintro ⟨H4, H7, Hk⟩
    iapply Hk
    isplitl [H4]; · iexact H4
    iexact H7
  | cons t ts ih =>
    iintro ⟨H4, H7, Hk⟩
    iapply (wp_load_has c arg7 S (rect7 o ho t) (View.loadsAt_vmem h_S8x128) _ Q) $$ [H7]
    · iexact H7
    iintro H7
    iapply (wp_load_has c arg4 D (rect4 t) (View.loadsAt_vmem h_S1x1x128) _ Q) $$ [H4]
    · iexact H4
    iintro H4
    iapply (ih _)
    isplitl [H4]; · iexact H4
    isplitl [H7]; · iexact H7
    iexact Hk

theorem wp_loadBest (arg8 : Memref sig .tc .vmem S16x128x128 .f32) (o : Nat) (ho : o + 8 ≤ 128)
    (B : S16x128x128.Idx → F .f32) (ts : List (Fin 16)) (v : Fin 16 → Vec F S8x128 .f32)
    (k : (Fin 16 → Vec F S8x128 .f32) → Prog (TpuEff nD τ sig (Elt F) Λ₀ .tc) α) (Q : α → sProp 𝕄) :
    iprop(has c arg8 B ∗ (has c arg8 B -∗ wp frame (wpE (defs₀ (F := F)) Variants.none c none) Set.univ (k (fill (oldOf B o ho) ts v)) Q))
      ⊢ wp frame (wpE (defs₀ (F := F)) Variants.none c none) Set.univ (loadBest arg8 o ho ts v >>= k) Q := by
  induction ts generalizing v with
  | nil =>
    show _ ⊢ wp frame _ Set.univ (k v) Q
    iintro ⟨H8, Hk⟩
    iapply Hk
    iexact H8
  | cons t ts ih =>
    iintro ⟨H8, Hk⟩
    iapply (wp_load_has c arg8 B (rect8 o ho t) (View.loadsAt_vmem h_S1x8x128) _ Q) $$ [H8]
    · iexact H8
    iintro H8
    iapply (ih _)
    isplitl [H8]; · iexact H8
    iexact Hk

theorem wp_storeBest (arg8 : Memref sig .tc .vmem S16x128x128 .f32) (o : Nat) (ho : o + 8 ≤ 128) (w : Fin 16 → Vec F S8x128 .f32)
    (B : S16x128x128.Idx → F .f32) (ts : List (Fin 16)) (k : PUnit → Prog (TpuEff nD τ sig (Elt F) Λ₀ .tc) α) (Q : α → sProp 𝕄) :
    iprop(has c arg8 B ∗ (has c arg8 (puts o ho w ts B) -∗ wp frame (wpE (defs₀ (F := F)) Variants.none c none) Set.univ (k ⟨⟩) Q))
      ⊢ wp frame (wpE (defs₀ (F := F)) Variants.none c none) Set.univ (storeBest arg8 o ho w ts >>= k) Q := by
  induction ts generalizing B with
  | nil =>
    show _ ⊢ wp frame _ Set.univ (k ⟨⟩) Q
    iintro ⟨H8, Hk⟩
    iapply Hk
    iexact H8
  | cons t ts ih =>
    iintro ⟨H8, Hk⟩
    iapply (wp_load_has c arg8 B (rect8 o ho t) (View.loadsAt_vmem h_S1x8x128) _ Q) $$ [H8]
    · iexact H8
    iintro H8
    iapply (wp_store_has c arg8 B (rect8 o ho t) _ (View.stores_vmem_bits_univ h_S1x8x128 rfl) (.inl rfl) _ Q) $$ [H8]
    · iexact H8
    iintro H8
    iapply (ih _)
    isplitl [H8]; · iexact H8
    iexact Hk

/-- One group of rows. -/
theorem wp_group (arg4 : Memref sig .tc .vmem S1x1x2048 .f32) (arg7 : Memref sig .tc .vmem S128x2048 .f32) (arg8 : Memref sig .tc .vmem S16x128x128 .f32)
    (o : Nat) (ho : o + 8 ≤ 128) (S : S128x2048.Idx → F .f32) (D : S1x1x2048.Idx → F .f32) (B : S16x128x128.Idx → F .f32)
    (k : PUnit → Prog (TpuEff nD τ sig (Elt F) Λ₀ .tc) α) (Q : α → sProp 𝕄) :
    iprop(has c arg4 D ∗ has c arg7 S ∗ has c arg8 (partBest S D B o)
        ∗ (iprop(has c arg4 D ∗ has c arg7 S ∗ has c arg8 (partBest S D B (o + 8))) -∗ wp frame (wpE (defs₀ (F := F)) Variants.none c none) Set.univ (k ⟨⟩) Q))
      ⊢ wp frame (wpE (defs₀ (F := F)) Variants.none c none) Set.univ (groupP arg4 arg7 arg8 o ho >>= k) Q := by
  rw [groupP_eq]
  unfold groupS
  rw [bind_assoc]
  iintro ⟨H4, H7, H8, Hk⟩
  iapply (wp_loadNew c arg4 arg7 o ho S D tiles _ _ Q)
  isplitl [H4]; · iexact H4
  isplitl [H7]; · iexact H7
  iintro ⟨H4, H7⟩
  rw [fill_tiles, bind_assoc]
  iapply (wp_loadBest c arg8 o ho _ tiles _ _ Q)
  isplitl [H8]; · iexact H8
  iintro H8
  rw [fill_tiles]
  iapply (wp_storeBest c arg8 o ho _ _ tiles k Q)
  isplitl [H8]; · iexact H8
  rw [puts_partBest]
  iintro H8
  iapply Hk
  isplitl [H4]; · iexact H4
  isplitl [H7]; · iexact H7
  iexact H8

end Cert.KernelIdeal.Body

end
-- ==== Proof.Tail.lean ====
/-
  The final merge at the last grid point, stated over planes and lists: the sixteen planes of the running best are loaded
  and transposed, cut into sixteen lists of eight lane classes, merged pairwise, merged with their own rotations by four,
  two and one rows, and the first row of each of the sixteen results is stored.
-/
module

public import proofs.«01_k».proof.Proof.Group

@[expose] public section

noncomputable section

namespace Cert.KernelIdeal.Body

open Cert.KernelIdeal Cert.KernelIdeal.Gen Cert.Net
open Idealize.ShloMosaic Idealize.ShloMosaic.TcCoe
open Idealize.SL Idealize.SL.Sem

variable {F : FTy → Type} [FloatOps F]

/-- Plane `t` lies in the running best. -/
theorem inbPlane (t : Nat) (ht : t < 16) : ∀ a, (![t, 0, 0] : Fin 3 → Nat) a + S1x128x128.size a ≤ S16x128x128.size a := by
  intro a
  match a with
  | 0 => show t + 1 ≤ 16; omega
  | 1 => exact Nat.le_refl 128
  | 2 => exact Nat.le_refl 128

/-- Plane `t`. -/
abbrev rectPlane (t : Fin 16) : Rect S16x128x128 := Rect.unit (s := S16x128x128) ![t.val, 0, 0] S1x128x128.size (inbPlane t.val t.isLt)

/-- A plane as loaded, its lanes made rows. -/
abbrev flip (a : Vec F S1x128x128 .f32) : Vec F S128x128 .f32 :=
  transpose S128x128 [1, 0] (shapeCast S128x128 a shapeCasts_S1x128x128_S128x128) transposes_S128x128_p1_0_S128x128

/-- The listed planes loaded and transposed. -/
def loadPlanes (arg8 : Memref sig .tc .vmem S16x128x128 .f32) :
    List (Fin 16) → (Fin 16 → Vec F S128x128 .f32) → Prog (TpuEff nD τ sig (Elt F) Λ₀ .tc) (Fin 16 → Vec F S128x128 .f32)
  | [], v => pure v
  | t :: ts, v => do
    let a : Vec F S1x128x128 .f32 ← Prog.lift (.load arg8 (rectPlane t).toLoadRect (View.loadsAt_vmem h_S1x128x128))
    loadPlanes arg8 ts (upd v t (flip a))

theorem slices8 (k : Fin 16) : S128x128.Slices ![8 * k.val, 0] S8x128 := by revert k; decide

/-- Rows `8 k` to `8 k + 7` of the transposed planes. -/
def slab (v : Fin 16 → Vec F S128x128 .f32) (k : Fin 16) : Fin 16 → Vec F S8x128 .f32 :=
  fun t => extractStridedSlice S8x128 ![8 * k.val, 0] (v t) (slices8 k)

/-- Two lists merged. -/
abbrev mrg (a b : Fin 16 → Vec F S8x128 .f32) : Fin 16 → Vec F S8x128 .f32 := merge16 maximumf minimumf a b

/-- The sixteen slabs merged pairwise to one list. -/
def tree (v : Fin 16 → Vec F S128x128 .f32) : Fin 16 → Vec F S8x128 .f32 :=
  mrg (mrg (mrg (mrg (slab v 0) (slab v 1)) (mrg (slab v 2) (slab v 3))) (mrg (mrg (slab v 4) (slab v 5)) (mrg (slab v 6) (slab v 7))))
    (mrg (mrg (mrg (slab v 8) (slab v 9)) (mrg (slab v 10) (slab v 11))) (mrg (mrg (slab v 12) (slab v 13)) (mrg (slab v 14) (slab v 15))))

/-- A list merged with its rotation by `n` rows. -/
def rollMerge (n : BitVec 32) (v : Fin 16 → Vec F S8x128 .f32) : Fin 16 → Vec F S8x128 .f32 :=
  mrg v fun t => dynamicRotate 0 n none (v t) rotates_S8x128_d0

/-- The first row. -/
abbrev row0 (a : Vec F S8x128 .f32) : Vec F S1x128 .f32 := extractStridedSlice S1x128 ![0, 0] a slices_S8x128_o0_0_S1x128

/-- What the last grid point stores, from the transposed planes. -/
def topOf (v : Fin 16 → Vec F S128x128 .f32) : Vec F S16x128 .f32 :=
  let w := rollMerge 1#32 (rollMerge 2#32 (rollMerge 4#32 (tree v)))
  concatenate S16x128 0 [⟨S1x128, row0 (w 0)⟩, ⟨S1x128, row0 (w 1)⟩, ⟨S1x128, row0 (w 2)⟩, ⟨S1x128, row0 (w 3)⟩, ⟨S1x128, row0 (w 4)⟩, ⟨S1x128, row0 (w 5)⟩, ⟨S1x128, row0 (w 6)⟩, ⟨S1x128, row0 (w 7)⟩, ⟨S1x128, row0 (w 8)⟩, ⟨S1x128, row0 (w 9)⟩, ⟨S1x128, row0 (w 10)⟩, ⟨S1x128, row0 (w 11)⟩, ⟨S1x128, row0 (w 12)⟩, ⟨S1x128, row0 (w 13)⟩, ⟨S1x128, row0 (w 14)⟩, ⟨S1x128, row0 (w 15)⟩] concatenates_S1x128_S1x128_S1x128_S1x128_S1x128_S1x128_S1x128_S1x128_S1x128_S1x128_S1x128_S1x128_S1x128_S1x128_S1x128_S1x128_S16x128_d0

/-- The final merge over planes. -/
def tailS (arg5 : Memref sig .tc .vmem S16x128 .f32) (arg8 : Memref sig .tc .vmem S16x128x128 .f32) : Prog (TpuEff nD τ sig (Elt F) Λ₀ .tc) PUnit := do
  let v ← loadPlanes arg8 tiles (fun _ => constant S128x128 .f32 0x00000000#32)
  let _ : Vec F S16x128 .f32 ← Prog.lift (.load arg5 (Rect.unit (s := S16x128) ![0, 0] S16x128.size inb_S16x128_S16x128_0_0).toLoadRect (View.loadsAt_vmem h_S16x128))
  Prog.lift (.store arg5 (Rect.unit (s := S16x128) ![0, 0] S16x128.size inb_S16x128_S16x128_0_0) (topOf v) Finset.univ (View.stores_vmem_bits_univ h_S16x128 rfl) (.inl rfl))

set_option maxRecDepth 100000 in
set_option maxHeartbeats 0 in
/-- At the last grid point the statements after the groups are these, -/
theorem tailP_last (i : grid0.Coords) (arg1 : Memref sig .tc .vmem S128x2048 .bf16) (harg1 : arg1.IsWhole) (arg2 : Memref sig .tc .vmem S1x2048 .f32) (harg2 : arg2.IsWhole) (arg3 : Memref sig .tc .vmem S2048x2048 .i8) (harg3 : arg3.IsWhole) (arg4 : Memref sig .tc .vmem S1x1x2048 .f32) (harg4 : arg4.IsWhole) (arg5 : Memref sig .tc .vmem S16x128 .f32) (harg5 : arg5.IsWhole) (arg6 : Memref sig .tc .vmem S128x2048 .bf16) (harg6 : arg6.IsWhole) (arg7 : Memref sig .tc .vmem S128x2048 .f32) (harg7 : arg7.IsWhole) (arg8 : Memref sig .tc .vmem S16x128x128 .f32) (harg8 : arg8.IsWhole)
    (h : k0_cond2 i = 1#1) : tailP (F := F) i arg1 harg1 arg2 harg2 arg3 harg3 arg4 harg4 arg5 harg5 arg6 harg6 arg7 harg7 arg8 harg8 = tailS arg5 arg8 := by
  unfold tailP
  rw [dif_pos h]
  rfl

/-- and elsewhere none. -/
theorem tailP_rest (i : grid0.Coords) (arg1 : Memref sig .tc .vmem S128x2048 .bf16) (harg1 : arg1.IsWhole) (arg2 : Memref sig .tc .vmem S1x2048 .f32) (harg2 : arg2.IsWhole) (arg3 : Memref sig .tc .vmem S2048x2048 .i8) (harg3 : arg3.IsWhole) (arg4 : Memref sig .tc .vmem S1x1x2048 .f32) (harg4 : arg4.IsWhole) (arg5 : Memref sig .tc .vmem S16x128 .f32) (harg5 : arg5.IsWhole) (arg6 : Memref sig .tc .vmem S128x2048 .bf16) (harg6 : arg6.IsWhole) (arg7 : Memref sig .tc .vmem S128x2048 .f32) (harg7 : arg7.IsWhole) (arg8 : Memref sig .tc .vmem S16x128x128 .f32) (harg8 : arg8.IsWhole)
    (h : ¬ k0_cond2 i = 1#1) : tailP (F := F) i arg1 harg1 arg2 harg2 arg3 harg3 arg4 harg4 arg5 harg5 arg6 harg6 arg7 harg7 arg8 harg8 = pure ⟨⟩ := by
  unfold tailP
  rw [dif_neg h]

end Cert.KernelIdeal.Body

end
-- ==== Proof.BodyEq.lean ====
/-
  The printed kernel body regrouped. The body handles the 128 query rows in sixteen groups of eight rows, each group by
  the same statements at another row offset; the printer cuts the whole text into parts of sixty statements without regard
  to the groups. Here the statements of one group are written once at a symbolic row offset `o` (`groupP`), the statements
  before the first group are `headP`, those after the last are `tailP`, and the printed body is shown to be those in order.
-/
module

public import proofs.«01_k».proof.Proof.Body

@[expose] public section

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

set_option maxRecDepth 100000 in
set_option maxHeartbeats 0 in
/-- The printed body at the first grid point. -/
theorem body_first (i : grid0.Coords) (arg1 : Memref sig .tc .vmem S128x2048 .bf16) (harg1 : arg1.IsWhole) (arg2 : Memref sig .tc .vmem S1x2048 .f32) (harg2 : arg2.IsWhole) (arg3 : Memref sig .tc .vmem S2048x2048 .i8) (harg3 : arg3.IsWhole) (arg4 : Memref sig .tc .vmem S1x1x2048 .f32) (harg4 : arg4.IsWhole) (arg5 : Memref sig .tc .vmem S16x128 .f32) (harg5 : arg5.IsWhole) (arg6 : Memref sig .tc .vmem S128x2048 .bf16) (harg6 : arg6.IsWhole) (arg7 : Memref sig .tc .vmem S128x2048 .f32) (harg7 : arg7.IsWhole) (arg8 : Memref sig .tc .vmem S16x128x128 .f32) (harg8 : arg8.IsWhole) (h : k0_cond1 i = 1#1) :
    cc0_mips_topk (F := F) i arg1 harg1 arg2 harg2 arg3 harg3 arg4 harg4 arg5 harg5 arg6 harg6 arg7 harg7 arg8 harg8 = (do initP i arg1 harg1 arg2 harg2 arg3 harg3 arg4 harg4 arg5 harg5 arg6 harg6 arg7 harg7 arg8 harg8; restP i arg1 harg1 arg2 harg2 arg3 harg3 arg4 harg4 arg5 harg5 arg6 harg6 arg7 harg7 arg8 harg8) := by
  unfold cc0_mips_topk k0_part180 k0_part33
  rw [dif_pos h]
  rfl

set_option maxRecDepth 100000 in
set_option maxHeartbeats 0 in
/-- The printed body at a later grid point. -/
theorem body_later (i : grid0.Coords) (arg1 : Memref sig .tc .vmem S128x2048 .bf16) (harg1 : arg1.IsWhole) (arg2 : Memref sig .tc .vmem S1x2048 .f32) (harg2 : arg2.IsWhole) (arg3 : Memref sig .tc .vmem S2048x2048 .i8) (harg3 : arg3.IsWhole) (arg4 : Memref sig .tc .vmem S1x1x2048 .f32) (harg4 : arg4.IsWhole) (arg5 : Memref sig .tc .vmem S16x128 .f32) (harg5 : arg5.IsWhole) (arg6 : Memref sig .tc .vmem S128x2048 .bf16) (harg6 : arg6.IsWhole) (arg7 : Memref sig .tc .vmem S128x2048 .f32) (harg7 : arg7.IsWhole) (arg8 : Memref sig .tc .vmem S16x128x128 .f32) (harg8 : arg8.IsWhole) (h : ¬ k0_cond1 i = 1#1) :
    cc0_mips_topk (F := F) i arg1 harg1 arg2 harg2 arg3 harg3 arg4 harg4 arg5 harg5 arg6 harg6 arg7 harg7 arg8 harg8 = restP i arg1 harg1 arg2 harg2 arg3 harg3 arg4 harg4 arg5 harg5 arg6 harg6 arg7 harg7 arg8 harg8 := by
  unfold cc0_mips_topk k0_part180 k0_part33
  rw [dif_neg h]
  rfl

end Cert.KernelIdeal.Body

end
-- ==== Proof.BodyRun.lean ====
/-
  What the kernel's body does at a grid point: at the first point it computes the normalized queries and starts the running
  best, at every point it scores the block of database rows and merges the scores into the running best, group of rows by
  group, and at the last point it stores the final lists.
-/
module

public import proofs.«01_k».proof.Proof.GroupRun
public import proofs.«01_k».proof.Proof.Tail
public import proofs.«01_k».proof.Proof.BodyEq

@[expose] public section

noncomputable section

namespace Cert.KernelIdeal.Body

open Cert.KernelIdeal Cert.KernelIdeal.Gen Cert.Net
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open ValueIdx (ix1 ix2 ix3)

variable {F : FTy → Type} [FloatOps F]

local notation "𝕄" => MT nD τ sig Unit (Elt F) ℕ (UR sig nD τ) ℕ

/-! ### Parts that are the whole -/

theorem load_full {s : Shape} {α : Type} {off : Fin s.rank → ℕ} (inb : ∀ a, off a + s.size a ≤ s.size a) (X : s.Idx → α) :
    (fun j => X ((Rect.unit off s.size inb).emb j)) = X := by
  funext j
  refine congrArg X (funext fun a => Fin.ext ?_)
  show off a + 1 * (j a).val = (j a).val
  have := inb a; omega

theorem store_full {s : Shape} {α : Type} {off : Fin s.rank → ℕ} (inb : ∀ a, off a + s.size a ≤ s.size a) (X w : s.Idx → α) :
    (Rect.unit off s.size inb).overlay X w = w := by
  funext j
  rw [overlay_unit inb X w j (fun a => ⟨by have := inb a; omega, by have := inb a; have := (j a).isLt; omega⟩)]
  refine congrArg w (funext fun a => Fin.ext ?_)
  show (j a).val - off a = (j a).val
  have := inb a; omega

/-! ### The values -/

/-- The normalized queries, from the queries and the gain. -/
def qnOf (x : Vec F S128x2048 .bf16) (g : Vec F S1x2048 .f32) : FVec F S128x2048 .bf16 :=
  have v5775 : FVec F S128x2048 .bf16 := shapeCast S128x2048 x shapeCasts_S128x2048_S128x2048
  have v5776 : FVec F S128x2048 .f32 := extf .f32 v5775 bitsLt_bf16_f32
  have v5777 : FVec F S128x2048 .f32 := mulf v5776 v5776
  have v5778 : FVec F S128 .f32 := multiReduction .add [1] S128 v5777 0x00000000#32 reduces_S128x2048_S128 (.inl rfl) rfl
  have v5779 : FVec F S128x1 .f32 := shapeCast S128x1 v5778 shapeCasts_S128_S128x1
  have cst_2782 : F .f32 := Scalar.ofBits .f32 0x45000000#32
  have v5780 : FVec F S128x1 .f32 := broadcast S128x1 cst_2782
  have v5781 : FVec F S128x1 .f32 := divf v5779 v5780
  have cst_2783 : F .f32 := Scalar.ofBits .f32 0x358637BD#32
  have v5782 : FVec F S128x1 .f32 := broadcast S128x1 cst_2783
  have v5783 : FVec F S128x1 .f32 := addf v5781 v5782
  have v5784 : FVec F S128x1 .f32 := rsqrt v5783
  have v5785 : FVec F S128x2048 .f32 := broadcastTo S128x2048 v5784 broadcasts_S128x1_S128x2048
  have v5786 : FVec F S128x2048 .f32 := mulf v5776 v5785
  have v5788 : FVec F S1x2048 .f32 := shapeCast S1x2048 g shapeCasts_S1x2048_S1x2048
  have v5789 : FVec F S128x2048 .f32 := broadcastTo S128x2048 v5788 broadcasts_S1x2048_S128x2048
  have v5790 : FVec F S128x2048 .f32 := mulf v5786 v5789
  have v5791 : FVec F S128x2048 .bf16 := truncf .bf16 v5790 bitsLt_bf16_f32
  v5791

/-- The running best as started: minus infinity everywhere. -/
def startBest : FVec F S16x128x128 .f32 :=
  shapeCast S16x128x128 (broadcast S16x128x128 (Scalar.ofBits .f32 0xFF800000#32 : F .f32)) shapeCasts_S16x128x128_S16x128x128

/-- The scores of a block of database rows, before their scales. -/
def scoreOf (q : Vec F S128x2048 .bf16) (codes : Vec F S2048x2048 .i8) : FVec F S128x2048 .f32 :=
  shapeCast S128x2048 (matmul dot_S128x2048_S2048x2048_S128x2048_1_1_0_0_n_n none (shapeCast S128x2048 q shapeCasts_S128x2048_S128x2048) (sitofp .bf16 codes) (constant S128x2048 .f32 0x00000000#32)) shapeCasts_S128x2048_S128x2048

/-- The planes of the running best as the final merge reads them. -/
def planesOf (B : S16x128x128.Idx → F .f32) (t : Fin 16) : Vec F S128x128 .f32 := flip fun j => B ((rectPlane t).emb j)

theorem partBest_zero (S : S128x2048.Idx → F .f32) (D : S1x1x2048.Idx → F .f32) (B : S16x128x128.Idx → F .f32) : partBest S D B 0 = B :=
  funext fun _ => if_neg (Nat.not_lt_zero _)

theorem partBest_all (S : S128x2048.Idx → F .f32) (D : S1x1x2048.Idx → F .f32) (B : S16x128x128.Idx → F .f32) : partBest S D B 128 = nextBest S D B :=
  funext fun j => if_pos (show (j 1).val < 128 from (j 1).isLt)

/-! ### The runs -/

variable (c : Dev nD) {α : Type}

theorem wp_loadPlanes (arg8 : Memref sig .tc .vmem S16x128x128 .f32) (B : S16x128x128.Idx → F .f32) (ts : List (Fin 16)) (v : Fin 16 → Vec F S128x128 .f32)
    (k : (Fin 16 → Vec F S128x128 .f32) → Prog (TpuEff nD τ sig (Elt F) Λ₀ .tc) α) (Q : α → sProp 𝕄) :
    iprop(has c arg8 B ∗ (has c arg8 B -∗ wp frame (wpE (defs₀ (F := F)) Variants.none c none) Set.univ (k (fill (planesOf B) ts v)) Q))
      ⊢ wp frame (wpE (defs₀ (F := F)) Variants.none c none) Set.univ (loadPlanes arg8 ts v >>= k) Q := by
  induction ts generalizing v with
  | nil =>
    show _ ⊢ wp frame _ Set.univ (k v) Q
    iintro ⟨H8, Hk⟩
    iapply Hk
    iexact H8
  | cons t ts ih =>
    iintro ⟨H8, Hk⟩
    iapply (wp_load_has c arg8 B (rectPlane t) (View.loadsAt_vmem h_S1x128x128) _ Q) $$ [H8]
    · iexact H8
    iintro H8
    iapply (ih _)
    isplitl [H8]; · iexact H8
    iexact Hk

/-- The final merge. -/
theorem wp_tail (arg5 : Memref sig .tc .vmem S16x128 .f32) (arg8 : Memref sig .tc .vmem S16x128x128 .f32) (X5 : S16x128.Idx → F .f32) (B : S16x128x128.Idx → F .f32)
    (k : PUnit → Prog (TpuEff nD τ sig (Elt F) Λ₀ .tc) α) (Q : α → sProp 𝕄) :
    iprop(has c arg5 X5 ∗ has c arg8 B
        ∗ (iprop(has c arg5 (topOf (planesOf B)) ∗ has c arg8 B) -∗ wp frame (wpE (defs₀ (F := F)) Variants.none c none) Set.univ (k ⟨⟩) Q))
      ⊢ wp frame (wpE (defs₀ (F := F)) Variants.none c none) Set.univ (tailS arg5 arg8 >>= k) Q := by
  unfold tailS
  rw [bind_assoc]
  iintro ⟨H5, H8, Hk⟩
  iapply (wp_loadPlanes c arg8 B tiles _ _ Q)
  isplitl [H8]; · iexact H8
  iintro H8
  rw [fill_tiles]
  iapply (wp_load_has c arg5 X5 _ _ _ Q) $$ [H5]
  · iexact H5
  iintro H5
  iapply (wp_store_has c arg5 X5 _ _ _ _ _ Q) $$ [H5]
  · iexact H5
  rw [store_full]
  iintro H5
  iapply Hk
  isplitl [H5]; · iexact H5
  iexact H8

section Body

variable (i : grid0.Coords) (arg1 : Memref sig .tc .vmem S128x2048 .bf16) (harg1 : arg1.IsWhole) (arg2 : Memref sig .tc .vmem S1x2048 .f32) (harg2 : arg2.IsWhole) (arg3 : Memref sig .tc .vmem S2048x2048 .i8) (harg3 : arg3.IsWhole) (arg4 : Memref sig .tc .vmem S1x1x2048 .f32) (harg4 : arg4.IsWhole) (arg5 : Memref sig .tc .vmem S16x128 .f32) (harg5 : arg5.IsWhole) (arg6 : Memref sig .tc .vmem S128x2048 .bf16) (harg6 : arg6.IsWhole) (arg7 : Memref sig .tc .vmem S128x2048 .f32) (harg7 : arg7.IsWhole) (arg8 : Memref sig .tc .vmem S16x128x128 .f32) (harg8 : arg8.IsWhole)

/-- The scores. -/
theorem wp_score (X7 : S128x2048.Idx → F .f32) (q : Vec F S128x2048 .bf16) (codes : Vec F S2048x2048 .i8)
    (k : PUnit → Prog (TpuEff nD τ sig (Elt F) Λ₀ .tc) α) (Q : α → sProp 𝕄) :
    iprop(has c arg3 codes ∗ has c arg6 q ∗ has c arg7 X7
        ∗ (iprop(has c arg3 codes ∗ has c arg6 q ∗ has c arg7 (scoreOf q codes)) -∗ wp frame (wpE (defs₀ (F := F)) Variants.none c none) Set.univ (k ⟨⟩) Q))
      ⊢ wp frame (wpE (defs₀ (F := F)) Variants.none c none) Set.univ (scoreP i arg1 harg1 arg2 harg2 arg3 harg3 arg4 harg4 arg5 harg5 arg6 harg6 arg7 harg7 arg8 harg8 >>= k) Q := by
  unfold scoreP
  iintro ⟨H3, H6, H7, Hk⟩
  iapply (wp_load_has c arg6 q _ _ _ Q) $$ [H6]
  · iexact H6
  rw [load_full]
  iintro H6
  iapply (wp_load_has c arg3 codes _ _ _ Q) $$ [H3]
  · iexact H3
  rw [load_full]
  iintro H3
  iapply (wp_load_has c arg7 X7 _ _ _ Q) $$ [H7]
  · iexact H7
  iintro H7
  iapply (wp_store_has c arg7 X7 _ _ _ _ _ Q) $$ [H7]
  · iexact H7
  rw [store_full]
  iintro H7
  iapply Hk
  isplitl [H3]; · iexact H3
  isplitl [H6]; · iexact H6
  iexact H7

/-- The first point's statements. -/
theorem wp_init (x : Vec F S128x2048 .bf16) (g : Vec F S1x2048 .f32) (X6 : S128x2048.Idx → F .bf16) (X8 : S16x128x128.Idx → F .f32)
    (k : PUnit → Prog (TpuEff nD τ sig (Elt F) Λ₀ .tc) α) (Q : α → sProp 𝕄) :
    iprop(has c arg1 x ∗ has c arg2 g ∗ has c arg6 X6 ∗ has c arg8 X8
        ∗ (iprop(has c arg1 x ∗ has c arg2 g ∗ has c arg6 (qnOf x g) ∗ has c arg8 startBest) -∗ wp frame (wpE (defs₀ (F := F)) Variants.none c none) Set.univ (k ⟨⟩) Q))
      ⊢ wp frame (wpE (defs₀ (F := F)) Variants.none c none) Set.univ (initP i arg1 harg1 arg2 harg2 arg3 harg3 arg4 harg4 arg5 harg5 arg6 harg6 arg7 harg7 arg8 harg8 >>= k) Q := by
  unfold initP
  iintro ⟨H1, H2, H6, H8, Hk⟩
  iapply (wp_load_has c arg1 x _ _ _ Q) $$ [H1]
  · iexact H1
  rw [load_full]
  iintro H1
  iapply (wp_load_has c arg2 g _ _ _ Q) $$ [H2]
  · iexact H2
  rw [load_full]
  iintro H2
  iapply (wp_load_has c arg6 X6 _ _ _ Q) $$ [H6]
  · iexact H6
  iintro H6
  iapply (wp_store_has c arg6 X6 _ _ _ _ _ Q) $$ [H6]
  · iexact H6
  rw [store_full]
  iintro H6
  iapply (wp_load_has c arg8 X8 _ _ _ Q) $$ [H8]
  · iexact H8
  iintro H8
  iapply (wp_store_has c arg8 X8 _ _ _ _ _ Q) $$ [H8]
  · iexact H8
  rw [store_full]
  iintro H8
  iapply Hk
  isplitl [H1]; · iexact H1
  isplitl [H2]; · iexact H2
  isplitl [H6]; · iexact H6
  iexact H8

/-- The scores and the sixteen groups: the running best takes in the block. -/
theorem wp_groups (S : S128x2048.Idx → F .f32) (D : S1x1x2048.Idx → F .f32) (B : S16x128x128.Idx → F .f32)
    (k : PUnit → Prog (TpuEff nD τ sig (Elt F) Λ₀ .tc) α) (Q : α → sProp 𝕄) :
    iprop(has c arg4 D ∗ has c arg7 S ∗ has c arg8 B
        ∗ (iprop(has c arg4 D ∗ has c arg7 S ∗ has c arg8 (nextBest S D B)) -∗ wp frame (wpE (defs₀ (F := F)) Variants.none c none) Set.univ (k ⟨⟩) Q))
      ⊢ wp frame (wpE (defs₀ (F := F)) Variants.none c none) Set.univ (do
          groupP arg4 arg7 arg8 0 (by decide)
          groupP arg4 arg7 arg8 8 (by decide)
          groupP arg4 arg7 arg8 16 (by decide)
          groupP arg4 arg7 arg8 24 (by decide)
          groupP arg4 arg7 arg8 32 (by decide)
          groupP arg4 arg7 arg8 40 (by decide)
          groupP arg4 arg7 arg8 48 (by decide)
          groupP arg4 arg7 arg8 56 (by decide)
          groupP arg4 arg7 arg8 64 (by decide)
          groupP arg4 arg7 arg8 72 (by decide)
          groupP arg4 arg7 arg8 80 (by decide)
          groupP arg4 arg7 arg8 88 (by decide)
          groupP arg4 arg7 arg8 96 (by decide)
          groupP arg4 arg7 arg8 104 (by decide)
          groupP arg4 arg7 arg8 112 (by decide)
          groupP arg4 arg7 arg8 120 (by decide)
          k ⟨⟩) Q := by
  rw [← partBest_all S D B]
  rw [show (has c arg8 B : sProp 𝕄) = has c arg8 (partBest S D B 0) by rw [partBest_zero]]
  iintro ⟨H4, H7, H8, Hk⟩
  iterate 16
    iapply (wp_group c arg4 arg7 arg8 _ _ S D B _ Q)
    isplitl [H4]; · iexact H4
    isplitl [H7]; · iexact H7
    isplitl [H8]; · iexact H8
    iintro ⟨H4, H7, H8⟩
  iapply Hk
  isplitl [H4]; · iexact H4
  isplitl [H7]; · iexact H7
  iexact H8

theorem wp_done (Q : PUnit.{1} → sProp 𝕄) : Q ⟨⟩ ⊢ wp frame (wpE (defs₀ (F := F)) Variants.none c none) Set.univ (pure ⟨⟩ : Prog (TpuEff nD τ sig (Elt F) Λ₀ .tc) PUnit) Q := le_wp_ret _ _ _ _ _

/-- Every point but the last: the block's scores are taken into the running best. -/
theorem wp_rest (h2 : ¬ k0_cond2 i = 1#1) (q : Vec F S128x2048 .bf16) (codes : Vec F S2048x2048 .i8) (D : S1x1x2048.Idx → F .f32)
    (X7 : S128x2048.Idx → F .f32) (B : S16x128x128.Idx → F .f32) (Q : PUnit.{1} → sProp 𝕄) :
    iprop(has c arg3 codes ∗ has c arg4 D ∗ has c arg6 q ∗ has c arg7 X7 ∗ has c arg8 B
        ∗ (iprop(has c arg3 codes ∗ has c arg4 D ∗ has c arg6 q ∗ has c arg7 (scoreOf q codes) ∗ has c arg8 (nextBest (scoreOf q codes) D B)) -∗ Q ⟨⟩))
      ⊢ wp frame (wpE (defs₀ (F := F)) Variants.none c none) Set.univ (restP i arg1 harg1 arg2 harg2 arg3 harg3 arg4 harg4 arg5 harg5 arg6 harg6 arg7 harg7 arg8 harg8) Q := by
  unfold restP
  rw [tailP_rest i arg1 harg1 arg2 harg2 arg3 harg3 arg4 harg4 arg5 harg5 arg6 harg6 arg7 harg7 arg8 harg8 h2]
  iintro ⟨H3, H4, H6, H7, H8, Hk⟩
  iapply (wp_score c i arg1 harg1 arg2 harg2 arg3 harg3 arg4 harg4 arg5 harg5 arg6 harg6 arg7 harg7 arg8 harg8 X7 q codes _ Q)
  isplitl [H3]; · iexact H3
  isplitl [H6]; · iexact H6
  isplitl [H7]; · iexact H7
  iintro ⟨H3, H6, H7⟩
  iapply (wp_groups c arg4 arg7 arg8 (scoreOf q codes) D B (fun _ : PUnit.{1} => pure ⟨⟩) Q)
  isplitl [H4]; · iexact H4
  isplitl [H7]; · iexact H7
  isplitl [H8]; · iexact H8
  iintro ⟨H4, H7, H8⟩
  iapply (wp_done c Q)
  iapply Hk
  isplitl [H3]; · iexact H3
  isplitl [H4]; · iexact H4
  isplitl [H6]; · iexact H6
  isplitl [H7]; · iexact H7
  iexact H8

/-- The last point: the same, and the final merge is stored. -/
theorem wp_rest_last (h2 : k0_cond2 i = 1#1) (q : Vec F S128x2048 .bf16) (codes : Vec F S2048x2048 .i8) (D : S1x1x2048.Idx → F .f32)
    (X5 : S16x128.Idx → F .f32) (X7 : S128x2048.Idx → F .f32) (B : S16x128x128.Idx → F .f32) (Q : PUnit.{1} → sProp 𝕄) :
    iprop(has c arg3 codes ∗ has c arg4 D ∗ has c arg5 X5 ∗ has c arg6 q ∗ has c arg7 X7 ∗ has c arg8 B
        ∗ (iprop(has c arg3 codes ∗ has c arg4 D ∗ has c arg5 (topOf (planesOf (nextBest (scoreOf q codes) D B))) ∗ has c arg6 q
            ∗ has c arg7 (scoreOf q codes) ∗ has c arg8 (nextBest (scoreOf q codes) D B)) -∗ Q ⟨⟩))
      ⊢ wp frame (wpE (defs₀ (F := F)) Variants.none c none) Set.univ (restP i arg1 harg1 arg2 harg2 arg3 harg3 arg4 harg4 arg5 harg5 arg6 harg6 arg7 harg7 arg8 harg8) Q := by
  unfold restP
  rw [tailP_last i arg1 harg1 arg2 harg2 arg3 harg3 arg4 harg4 arg5 harg5 arg6 harg6 arg7 harg7 arg8 harg8 h2]
  iintro ⟨H3, H4, H5, H6, H7, H8, Hk⟩
  iapply (wp_score c i arg1 harg1 arg2 harg2 arg3 harg3 arg4 harg4 arg5 harg5 arg6 harg6 arg7 harg7 arg8 harg8 X7 q codes _ Q)
  isplitl [H3]; · iexact H3
  isplitl [H6]; · iexact H6
  isplitl [H7]; · iexact H7
  iintro ⟨H3, H6, H7⟩
  iapply (wp_groups c arg4 arg7 arg8 (scoreOf q codes) D B (fun _ : PUnit.{1} => tailS arg5 arg8) Q)
  isplitl [H4]; · iexact H4
  isplitl [H7]; · iexact H7
  isplitl [H8]; · iexact H8
  iintro ⟨H4, H7, H8⟩
  rw [← bind_pure (tailS arg5 arg8)]
  iapply (wp_tail c arg5 arg8 X5 _ pure Q)
  isplitl [H5]; · iexact H5
  isplitl [H8]; · iexact H8
  iintro ⟨H5, H8⟩
  iapply (wp_done c Q)
  iapply Hk
  isplitl [H3]; · iexact H3
  isplitl [H4]; · iexact H4
  isplitl [H5]; · iexact H5
  isplitl [H6]; · iexact H6
  isplitl [H7]; · iexact H7
  iexact H8

/-- The body at the first point. -/
theorem wp_body_first (h1 : k0_cond1 i = 1#1) (h2 : ¬ k0_cond2 i = 1#1) (x : Vec F S128x2048 .bf16) (g : Vec F S1x2048 .f32)
    (codes : Vec F S2048x2048 .i8) (D : S1x1x2048.Idx → F .f32)
    (X6 : S128x2048.Idx → F .bf16) (X7 : S128x2048.Idx → F .f32) (X8 : S16x128x128.Idx → F .f32) (Q : PUnit.{1} → sProp 𝕄) :
    iprop(has c arg1 x ∗ has c arg2 g ∗ has c arg3 codes ∗ has c arg4 D ∗ has c arg6 X6 ∗ has c arg7 X7 ∗ has c arg8 X8
        ∗ (iprop(has c arg1 x ∗ has c arg2 g ∗ has c arg3 codes ∗ has c arg4 D ∗ has c arg6 (qnOf x g) ∗ has c arg7 (scoreOf (qnOf x g) codes)
            ∗ has c arg8 (nextBest (scoreOf (qnOf x g) codes) D startBest)) -∗ Q ⟨⟩))
      ⊢ wp frame (wpE (defs₀ (F := F)) Variants.none c none) Set.univ (cc0_mips_topk i arg1 harg1 arg2 harg2 arg3 harg3 arg4 harg4 arg5 harg5 arg6 harg6 arg7 harg7 arg8 harg8) Q := by
  rw [body_first i arg1 harg1 arg2 harg2 arg3 harg3 arg4 harg4 arg5 harg5 arg6 harg6 arg7 harg7 arg8 harg8 h1]
  iintro ⟨H1, H2, H3, H4, H6, H7, H8, Hk⟩
  iapply (wp_init c i arg1 harg1 arg2 harg2 arg3 harg3 arg4 harg4 arg5 harg5 arg6 harg6 arg7 harg7 arg8 harg8 x g X6 X8 _ Q)
  isplitl [H1]; · iexact H1
  isplitl [H2]; · iexact H2
  isplitl [H6]; · iexact H6
  isplitl [H8]; · iexact H8
  iintro ⟨H1, H2, H6, H8⟩
  iapply (wp_rest c i arg1 harg1 arg2 harg2 arg3 harg3 arg4 harg4 arg5 harg5 arg6 harg6 arg7 harg7 arg8 harg8 h2 (qnOf x g) codes D X7 startBest Q)
  isplitl [H3]; · iexact H3
  isplitl [H4]; · iexact H4
  isplitl [H6]; · iexact H6
  isplitl [H7]; · iexact H7
  isplitl [H8]; · iexact H8
  iintro ⟨H3, H4, H6, H7, H8⟩
  iapply Hk
  isplitl [H1]; · iexact H1
  isplitl [H2]; · iexact H2
  isplitl [H3]; · iexact H3
  isplitl [H4]; · iexact H4
  isplitl [H6]; · iexact H6
  isplitl [H7]; · iexact H7
  iexact H8

end Body

end Cert.KernelIdeal.Body

end
-- ==== Proof.Region.lean ====
/-
  The region point by point: what each staging buffer and each scratch buffer holds when the body runs at a point of the grid
  and what it leaves there.
-/
module

public import proofs.«01_k».proof.Proof.BodyRun

@[expose] public section

set_option maxRecDepth 16384

noncomputable section

namespace Cert.KernelIdeal.Body

open Cert.KernelIdeal Cert.KernelIdeal.Gen Cert.Net
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open ValueIdx (ix1 ix2 ix3)

variable {F : FTy → Type} [FloatOps F]

local notation "𝕄" => MT nD τ sig Unit (Elt F) ℕ (UR sig nD τ) ℕ

/-- The initialisation runs at the first point only. -/
theorem cond1_iff : ∀ t : Fin cfg0.N, k0_cond1 (cfg0.grid.coords t) = 1#1 ↔ t.val = 0 := by
  decide +kernel

/-- The final merges run at the last point only. -/
theorem cond2_iff : ∀ t : Fin cfg0.N, k0_cond2 (cfg0.grid.coords t) = 1#1 ↔ t.val = 83 := by
  decide +kernel

section Points

variable (m : (ℓ : Loc nD τ sig) → Buf (Elt F) ℓ) (c : Dev nD)

/-- The first point. -/
def t0 : Fin cfg0.N := ⟨0, by decide⟩

/-- The point number `n`; past the grid, the first. -/
def pt (n : ℕ) : Fin cfg0.N := if h : n < cfg0.N then ⟨n, h⟩ else t0

theorem pt_val (t : Fin cfg0.N) : pt t.val = t := by unfold pt; rw [dif_pos t.isLt]

/-- The normalised query. -/
def qn : FVec F S128x2048 .bf16 := qnOf (iblk m c 0 t0) (iblk m c 1 t0)

/-- The scores of point `t`'s rows of the database, before their scales. -/
def scoreAt (t : Fin cfg0.N) : FVec F S128x2048 .f32 := scoreOf (qn m c) (iblk m c 2 t)

/-- The running best before point `n`. -/
def bestAt : ℕ → (S16x128x128.Idx → F .f32)
  | 0 => startBest
  | n + 1 => nextBest (scoreAt m c (pt n)) (iblk m c 3 (pt n)) (bestAt n)

theorem bestAt_succ (t : Fin cfg0.N) : bestAt m c (t.val + 1) = nextBest (scoreAt m c t) (iblk m c 3 t) (bestAt m c t.val) := by
  rw [bestAt, pt_val]

/-- The scratch buffers before point `n`: at first anything; then the running best, and anything in the scores' buffer. -/
def inv (n : ℕ) : sProp 𝕄 :=
  match n with
  | 0 => Pipeline.ΦA (U := UR sig nD τ) spec0 c
  | n + 1 => iprop((∃ X, has c (Memref.whole cc0_scratch0) X) ∗ has c (Memref.whole cc0_scratch1) (bestAt m c (n + 1)) ∗ ∃ r, prngReg c r)

/-- What each window's staging buffer holds after the body at a point. -/
def leave (w : Fin cfg0.W) (t : Fin cfg0.N) : (cfg0.win w).block.Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => topOf (planesOf (bestAt m c 84))
  | ⟨5, _⟩ => qn m c

/-- The proof data of the region. -/
def dat : Dat τ (Elt F) Unit ℕ (UR sig nD τ) ℕ cfg0 c where
  A w := V m c (Pipeline.arrRef spec0 w)
  after := leave m c
  Φ t := inv m c t.val
  q _ := fullShare
  owed _ := 0

theorem inv_first (n : ℕ) (h : n = 0) : inv m c n = iprop(((∃ X, has c (Memref.whole cc0_scratch0) X) ∗ (∃ X, has c (Memref.whole cc0_scratch1) X)) ∗ ∃ r, prngReg c r) := by
  subst h
  show Pipeline.ΦA (U := UR sig nD τ) spec0 c = _
  unfold Pipeline.ΦA
  rw [scopedRest0_eq]
  simp only [has, owns_whole]

theorem inv_later (n : ℕ) (h : n ≠ 0) : inv m c n = iprop((∃ X, has c (Memref.whole cc0_scratch0) X) ∗ has c (Memref.whole cc0_scratch1) (bestAt m c n) ∗ ∃ r, prngReg c r) := by
  obtain ⟨k, rfl⟩ := Nat.exists_eq_succ_of_ne_zero h
  rfl

theorem idle4 (t : Fin cfg0.N) (h : ¬ k0_cond2 (cfg0.grid.coords t) = 1#1) : cfg0.idle 4 (cfg0.grid.coords t) = true := by
  show (!(k0_cond2 (cfg0.grid.coords t) == 1#1)) = true
  simpa using h

theorem live4 (t : Fin cfg0.N) (h : k0_cond2 (cfg0.grid.coords t) = 1#1) : cfg0.idle 4 (cfg0.grid.coords t) = false := by
  show (!(k0_cond2 (cfg0.grid.coords t) == 1#1)) = false
  simpa using h

theorem idle5 (t : Fin cfg0.N) (h : ¬ k0_cond1 (cfg0.grid.coords t) = 1#1) : cfg0.idle 5 (cfg0.grid.coords t) = true := by
  show (!(k0_cond1 (cfg0.grid.coords t) == 1#1)) = true
  simpa using h

theorem live5 (t : Fin cfg0.N) (h : k0_cond1 (cfg0.grid.coords t) = 1#1) : cfg0.idle 5 (cfg0.grid.coords t) = false := by
  show (!(k0_cond1 (cfg0.grid.coords t) == 1#1)) = false
  simpa using h

theorem noflush4 (t : Fin cfg0.N) (h : t.val ≠ 83) : (cfg0.win 4).flush t = false := by
  have ht : t.val < 84 := t.isLt
  rw [Bool.eq_false_iff]; intro hf; rw [flush0_4] at hf; omega

theorem noflush5 (t : Fin cfg0.N) (h : t.val ≠ 83) : (cfg0.win 5).flush t = false := by
  have ht : t.val < 84 := t.isLt
  rw [Bool.eq_false_iff]; intro hf; rw [flush0_5] at hf; omega

/-- From the second point on the normalised query's buffer holds it. -/
theorem before5 : ∀ (n : ℕ) (h : n + 1 < cfg0.N) (d), (dat m c).before 5 ⟨n + 1, h⟩ d = qn m c := by
  intro n
  induction n with
  | zero =>
    intro h d
    rw [Dat.before_of_pos _ 5 ⟨0 + 1, h⟩ (Nat.succ_ne_zero _) rfl]
    rw [if_neg (by rw [noflush5 _ (by show (0 : ℕ) ≠ 83; decide)]; decide)]
    unfold Dat.left
    rw [live5 _ ((cond1_iff _).mpr rfl)]
    rfl
  | succ n ih =>
    intro h d
    rw [Dat.before_of_pos _ 5 ⟨n + 1 + 1, h⟩ (Nat.succ_ne_zero _) rfl]
    have hN : n + 1 + 1 < 84 := h
    rw [if_neg (by rw [noflush5 _ (by show n + 1 ≠ 83; omega)]; decide)]
    unfold Dat.left
    rw [idle5 _ (fun hc => by have := (cond1_iff _).mp hc; exact Nat.succ_ne_zero n this)]
    exact ih (by omega) d

theorem before5_pos (t : Fin cfg0.N) (h : t.val ≠ 0) (d) : (dat m c).before 5 t d = qn m c := by
  obtain ⟨n, hn⟩ := t
  obtain ⟨k, rfl⟩ := Nat.exists_eq_succ_of_ne_zero h
  exact before5 m c k hn d

/-- What the body finds in the input windows: their blocks. -/
theorem body_pre (t : Fin cfg0.N) (d0 d1 d2 d3) :
    (dat m c).before 0 t d0 = iblk m c 0 t ∧ (dat m c).before 1 t d1 = iblk m c 1 t
      ∧ (dat m c).before 2 t d2 = iblk m c 2 t ∧ (dat m c).before 3 t d3 = iblk m c 3 t :=
  ⟨before0_0_of m (dat m c) rfl (fun _ => rfl) t d0, before0_1_of m (dat m c) rfl (fun _ => rfl) t d1,
    before0_2_of m (dat m c) rfl (fun _ => rfl) t d2, before0_3_of m (dat m c) rfl (fun _ => rfl) t d3⟩

/-- At the first point the query is normalised, the running best cleared, and the first scores taken in. -/
theorem body_first_point (t : Fin cfg0.N) (h : t.val = 0) :
    iprop((dat m c).Φ t.castSucc ∗ (dat m c).owesAt () t.castSucc
        ∗ bigSep Finset.univ fun w : Fin cfg0.W => iprop(∃ d, owns c ((cfg0.win w).stage (cfg0.slots t w)) fullShare ((dat m c).before w t d)))
      ⊢ wp frame (wpE (defs₀ (F := F)) Variants.none c none) Set.univ (bodyAt0 t) fun _ =>
          iprop((dat m c).Φ t.succ ∗ (dat m c).owesAt () t.succ ∗ bigSep Finset.univ fun w : Fin cfg0.W => (dat m c).leaves w t) := by
  have e1 : k0_cond1 (cfg0.grid.coords t) = 1#1 := (cond1_iff t).mpr h
  have e2 : ¬ k0_cond2 (cfg0.grid.coords t) = 1#1 := fun hc => by have := (cond2_iff t).mp hc; omega
  have hL4 : (dat m c).leaves 4 t = iprop(∃ d, owns c ((cfg0.win 4).stage (cfg0.slots t 4)) fullShare ((dat m c).before 4 t d)) := by
    unfold Dat.leaves; rw [idle4 t e2, noflush4 t (by omega)]
  have hL5 : (dat m c).leaves 5 t = owns c ((cfg0.win 5).stage (cfg0.slots t 5)) fullShare (qn m c) := by
    unfold Dat.leaves; rw [live5 t e1]; rfl
  have ht : t = t0 := Fin.ext h
  show iprop(inv m c t.val ∗ (dat m c).owesAt () t.castSucc ∗ _) ⊢ wp _ _ _ _ fun _ => iprop(inv m c (t.val + 1) ∗ (dat m c).owesAt () t.castSucc ∗ _)
  rw [inv_first m c _ h, inv_later m c (t.val + 1) (Nat.succ_ne_zero _), bestAt_succ, bigSep_W0, bigSep_W0, hL4, hL5]
  iintro ⟨⟨⟨⟨%X7, H7⟩, ⟨%X8, H8⟩⟩, Hr⟩, Ho, ⟨%d0, H0⟩, ⟨%d1, H1⟩, ⟨%d2, H2⟩, ⟨%d3, H3⟩, H4, ⟨%d5, H5⟩⟩
  rw [(body_pre m c t d0 d1 d2 d3).1, (body_pre m c t d0 d1 d2 d3).2.1, (body_pre m c t d0 d1 d2 d3).2.2.1, (body_pre m c t d0 d1 d2 d3).2.2.2]
  iapply (wp_body_first c (cfg0.grid.coords t) _ _ _ _ _ _ _ _ _ _ _ _ _ _ _ _ e1 e2 (iblk m c 0 t) (iblk m c 1 t) (iblk m c 2 t) (iblk m c 3 t) _ X7 X8)
  isplitl [H0]; · iexact H0
  isplitl [H1]; · iexact H1
  isplitl [H2]; · iexact H2
  isplitl [H3]; · iexact H3
  isplitl [H5]; · iexact H5
  isplitl [H7]; · iexact H7
  isplitl [H8]; · iexact H8
  iintro ⟨H0, H1, H2, H3, H5, H7, H8⟩
  subst ht
  isplitl [Hr H7 H8]
  · isplitl [H7]
    · iexists _; iexact H7
    isplitl [H8]
    · iexact H8
    iexact Hr
  isplitl [Ho]; · iexact Ho
  isplitl [H0]; · iexact H0
  isplitl [H1]; · iexact H1
  isplitl [H2]; · iexact H2
  isplitl [H3]; · iexact H3
  isplitl [H4]; · iexact H4
  iexact H5

/-- At a later point but the last the scores are taken in. -/
theorem body_middle_point (t : Fin cfg0.N) (h : t.val ≠ 0) (h' : t.val ≠ 83) :
    iprop((dat m c).Φ t.castSucc ∗ (dat m c).owesAt () t.castSucc
        ∗ bigSep Finset.univ fun w : Fin cfg0.W => iprop(∃ d, owns c ((cfg0.win w).stage (cfg0.slots t w)) fullShare ((dat m c).before w t d)))
      ⊢ wp frame (wpE (defs₀ (F := F)) Variants.none c none) Set.univ (bodyAt0 t) fun _ =>
          iprop((dat m c).Φ t.succ ∗ (dat m c).owesAt () t.succ ∗ bigSep Finset.univ fun w : Fin cfg0.W => (dat m c).leaves w t) := by
  have e1 : ¬ k0_cond1 (cfg0.grid.coords t) = 1#1 := fun hc => h ((cond1_iff t).mp hc)
  have e2 : ¬ k0_cond2 (cfg0.grid.coords t) = 1#1 := fun hc => h' ((cond2_iff t).mp hc)
  have hL4 : (dat m c).leaves 4 t = iprop(∃ d, owns c ((cfg0.win 4).stage (cfg0.slots t 4)) fullShare ((dat m c).before 4 t d)) := by
    unfold Dat.leaves; rw [idle4 t e2, noflush4 t h']
  have hL5 : (dat m c).leaves 5 t = iprop(∃ d, owns c ((cfg0.win 5).stage (cfg0.slots t 5)) fullShare ((dat m c).before 5 t d)) := by
    unfold Dat.leaves; rw [idle5 t e1, noflush5 t h']
  show iprop(inv m c t.val ∗ (dat m c).owesAt () t.castSucc ∗ _) ⊢ wp _ _ _ _ fun _ => iprop(inv m c (t.val + 1) ∗ (dat m c).owesAt () t.castSucc ∗ _)
  rw [inv_later m c _ h, inv_later m c (t.val + 1) (Nat.succ_ne_zero _), bestAt_succ, bigSep_W0, bigSep_W0, hL4, hL5]
  simp only [before5_pos m c t h]
  unfold bodyAt0
  rw [body_later _ _ _ _ _ _ _ _ _ _ _ _ _ _ _ _ _ e1]
  iintro ⟨⟨⟨%X7, H7⟩, H8, Hr⟩, Ho, ⟨%d0, H0⟩, ⟨%d1, H1⟩, ⟨%d2, H2⟩, ⟨%d3, H3⟩, H4, ⟨%d5, H5⟩⟩
  rw [(body_pre m c t d0 d1 d2 d3).1, (body_pre m c t d0 d1 d2 d3).2.1, (body_pre m c t d0 d1 d2 d3).2.2.1, (body_pre m c t d0 d1 d2 d3).2.2.2]
  iapply (wp_rest c (cfg0.grid.coords t) _ _ _ _ _ _ _ _ _ _ _ _ _ _ _ _ e2 (qn m c) (iblk m c 2 t) (iblk m c 3 t) X7 (bestAt m c t.val))
  isplitl [H2]; · iexact H2
  isplitl [H3]; · iexact H3
  isplitl [H5]; · iexact H5
  isplitl [H7]; · iexact H7
  isplitl [H8]; · iexact H8
  iintro ⟨H2, H3, H5, H7, H8⟩
  isplitl [Hr H7 H8]
  · isplitl [H7]
    · iexists _; iexact H7
    isplitl [H8]
    · iexact H8
    iexact Hr
  isplitl [Ho]; · iexact Ho
  isplitl [H0]; · iexact H0
  isplitl [H1]; · iexact H1
  isplitl [H2]; · iexact H2
  isplitl [H3]; · iexact H3
  isplitl [H4]; · iexact H4
  iexists d5; iexact H5

/-- At the last point the scores are taken in and the final merges stored. -/
theorem body_last_point (t : Fin cfg0.N) (h : t.val = 83) :
    iprop((dat m c).Φ t.castSucc ∗ (dat m c).owesAt () t.castSucc
        ∗ bigSep Finset.univ fun w : Fin cfg0.W => iprop(∃ d, owns c ((cfg0.win w).stage (cfg0.slots t w)) fullShare ((dat m c).before w t d)))
      ⊢ wp frame (wpE (defs₀ (F := F)) Variants.none c none) Set.univ (bodyAt0 t) fun _ =>
          iprop((dat m c).Φ t.succ ∗ (dat m c).owesAt () t.succ ∗ bigSep Finset.univ fun w : Fin cfg0.W => (dat m c).leaves w t) := by
  have h0 : t.val ≠ 0 := by omega
  have e1 : ¬ k0_cond1 (cfg0.grid.coords t) = 1#1 := fun hc => h0 ((cond1_iff t).mp hc)
  have e2 : k0_cond2 (cfg0.grid.coords t) = 1#1 := (cond2_iff t).mpr h
  have hL4 : (dat m c).leaves 4 t = owns c ((cfg0.win 4).stage (cfg0.slots t 4)) fullShare (topOf (planesOf (nextBest (scoreAt m c t) (iblk m c 3 t) (bestAt m c t.val)))) := by
    rw [← bestAt_succ, h]
    unfold Dat.leaves; rw [live4 t e2]; rfl
  have hL5 : (dat m c).leaves 5 t = owns c ((cfg0.win 5).stage (cfg0.slots t 5)) fullShare (qn m c) := by
    unfold Dat.leaves; rw [idle5 t e1, (flush0_5 t).mpr (by rw [h])]; rfl
  show iprop(inv m c t.val ∗ (dat m c).owesAt () t.castSucc ∗ _) ⊢ wp _ _ _ _ fun _ => iprop(inv m c (t.val + 1) ∗ (dat m c).owesAt () t.castSucc ∗ _)
  rw [inv_later m c _ h0, inv_later m c (t.val + 1) (Nat.succ_ne_zero _), bestAt_succ, bigSep_W0, bigSep_W0, hL4, hL5]
  simp only [before5_pos m c t h0]
  unfold bodyAt0
  rw [body_later _ _ _ _ _ _ _ _ _ _ _ _ _ _ _ _ _ e1]
  iintro ⟨⟨⟨%X7, H7⟩, H8, Hr⟩, Ho, ⟨%d0, H0⟩, ⟨%d1, H1⟩, ⟨%d2, H2⟩, ⟨%d3, H3⟩, ⟨%d4, H4⟩, ⟨%d5, H5⟩⟩
  rw [(body_pre m c t d0 d1 d2 d3).1, (body_pre m c t d0 d1 d2 d3).2.1, (body_pre m c t d0 d1 d2 d3).2.2.1, (body_pre m c t d0 d1 d2 d3).2.2.2]
  iapply (wp_rest_last c (cfg0.grid.coords t) _ _ _ _ _ _ _ _ _ _ _ _ _ _ _ _ e2 (qn m c) (iblk m c 2 t) (iblk m c 3 t) _ X7 (bestAt m c t.val))
  isplitl [H2]; · iexact H2
  isplitl [H3]; · iexact H3
  isplitl [H4]; · iexact H4
  isplitl [H5]; · iexact H5
  isplitl [H7]; · iexact H7
  isplitl [H8]; · iexact H8
  iintro ⟨H2, H3, H4, H5, H7, H8⟩
  isplitl [Hr H7 H8]
  · isplitl [H7]
    · iexists _; iexact H7
    isplitl [H8]
    · iexact H8
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body does at every point what the proof data say. -/
theorem body_obligation : BodyObligationLoose (dat m c) (defs₀ (F := F)) Variants.none () Set.univ := by
  intro t
  by_cases h : t.val = 0
  · exact body_first_point m c t h
  by_cases h' : t.val = 83
  · exact body_last_point m c t h'
  · exact body_middle_point m c t h h'

end Points

/-- The proof data, over the one region. -/
def dats (m : (ℓ : Loc nD τ sig) → Buf (Elt F) ℓ) (p : Fin 1) (c : Dev nD) : Dat τ (Elt F) Unit ℕ (UR sig nD τ) ℕ (cfgs p) c := dat m c

/-- A run of the program ends with every window's array as the proof data say, every other buffer as the host operations
    after the region leave it, and every semaphore at zero. -/
theorem run (m : (ℓ : Loc nD τ sig) → Buf (Elt F) ℓ) (ρ : Dev nD → PrngReg) :
    θ_run defs (onTc (τ := τ) (main (F := F))) (s₀ m ρ) (fun r =>
      Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => body_obligation m c)
    (fun c w => by fin_cases w <;> rfl)
    (fun _ _ => rfl) (V0 m) [hostOps1] sfx_sub sfx_fresh sfx_keeps (hmain m Variants.none)
    (fun _ _ => rfl)
    (fun c => Entails.of_eq rfl)
    (fun c => by
      show inv m c 84 ⊢ _
      rw [← show inv m c 0 = Pipeline.ΦA (U := UR sig nD τ) spec0 c from rfl, inv_first m c 0 rfl, inv_later m c 84 (by decide)]
      iintro ⟨H7, H8, Hr⟩
      isplitr [Hr]
      · isplitl [H7]; · iexact H7
        iexists _; iexact H8
      iexact Hr)
    (Q' := _) (fun _ h => h)

end Cert.KernelIdeal.Body
-- ==== Proof.Frames.lean ====
/-
  The frames of the kernel and of its idealization: the program runs to the end, leaves its arguments as they were and every
  semaphore at zero. The two programs are the same text, so what is proved of one at any arithmetic is the other's too.
-/
module

public import proofs.«01_k».proof.Proof.Region
public import proofs.«01_k».proof.Defs
public import proofs.«01_k».proof.Proof.Gen.Kernel
public import proofs.«01_k».proof.Proof.Gen.ReferenceIdeal.Run

@[expose] public section

set_option maxRecDepth 100000

noncomputable section

namespace Cert.KernelIdeal.Body

open Idealize.ShloMosaic Idealize.ShloMosaic.TcCoe
open Idealize.SL Idealize.SL.Sem

variable {F : FTy → Type} [FloatOps F]

open Cert.KernelIdeal Cert.KernelIdeal.Gen

/-- What a run of the program leaves of its arguments and semaphores. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      ((h.1 c).1 2).trans (((dats m 0 c).arrAt_in 2 rfl _).trans (V_main_arg2 m c)),
      (((h.1 c).2 main_arg3 (Pipeline.mem_restRefs_of main_arg3 (by decide) (by decide))).trans (W_main_arg3 m (dats m) c))⟩, h.2⟩) (run m ρ)

theorem quiescent_KernelIdeal : Cert.quiescent_KernelIdeal := fun m ρ _ => frame_run m ρ

/-- The kernel's body is its idealization's. -/
theorem kernel_body_eq (i : grid0.Coords) (arg1 : Memref sig .tc .vmem S128x2048 .bf16) (harg1 : arg1.IsWhole) (arg2 : Memref sig .tc .vmem S1x2048 .f32) (harg2 : arg2.IsWhole) (arg3 : Memref sig .tc .vmem S2048x2048 .i8) (harg3 : arg3.IsWhole) (arg4 : Memref sig .tc .vmem S1x1x2048 .f32) (harg4 : arg4.IsWhole) (arg5 : Memref sig .tc .vmem S16x128 .f32) (harg5 : arg5.IsWhole) (arg6 : Memref sig .tc .vmem S128x2048 .bf16) (harg6 : arg6.IsWhole) (arg7 : Memref sig .tc .vmem S128x2048 .f32) (harg7 : arg7.IsWhole) (arg8 : Memref sig .tc .vmem S16x128x128 .f32) (harg8 : arg8.IsWhole) : Cert.Kernel.cc0_mips_topk (F := F) i arg1 harg1 arg2 harg2 arg3 harg3 arg4 harg4 arg5 harg5 arg6 harg6 arg7 harg7 arg8 harg8 = Cert.KernelIdeal.cc0_mips_topk (F := F) i arg1 harg1 arg2 harg2 arg3 harg3 arg4 harg4 arg5 harg5 arg6 harg6 arg7 harg7 arg8 harg8 := rfl

theorem kernel_defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact kernel_body_eq ..

theorem kernel_defs_eq : Cert.Kernel.defs (F := F) = Cert.KernelIdeal.defs (F := F) := by
  unfold Cert.Kernel.defs Cert.KernelIdeal.defs
  exact congrArg (Pipeline.defs _) kernel_defs₀_eq

theorem kernel_main_eq : Cert.Kernel.main (F := F) = Cert.KernelIdeal.main (F := F) := rfl

/-- The kernel's program is its idealization's, operation by operation. -/
theorem quiescent_Kernel : Cert.quiescent_Kernel := by
  intro m ρ _
  rw [kernel_defs_eq, kernel_main_eq]
  exact frame_run (F := Bits) m ρ

end Cert.KernelIdeal.Body
-- ==== Proof.NetSort.lean ====
/-
  What the two networks compute in a linear order, `mx` the maximum and `mn` the minimum. The sixty exchanges leave any sixteen
  values descending: by the 0-1 principle this is a statement on Booleans, and all 65536 Boolean inputs are followed at once,
  each wire a number of 65536 bits. The merge of two descending lists is the sixteen greatest of the two, descending.
-/
module

public import proofs.«01_k».proof.Proof.Net
public import Idealize.ShloMosaic.Lib.SortNet.Lists

@[expose] public section

set_option maxRecDepth 100000

namespace Cert.Net

open Idealize.ShloMosaic.SortNet

variable {α : Type*} [LinearOrder α]

/-- The exchanges as compare-exchanges. -/
def toNet (cs : List (Fin 16 × Fin 16)) : Network 16 :=
  cs.filterMap fun c => if h : c.2 ≠ c.1 then some ⟨c.2, c.1, h⟩ else none

theorem run_eq_apply (cs : List (Fin 16 × Fin 16)) (h : ∀ c ∈ cs, c.2 ≠ c.1) (x : Fin 16 → α) :
    run max min cs x = Network.apply (toNet cs) x := by
  induction cs generalizing x with
  | nil => rfl
  | cons c cs ih =>
    have hc := h c List.mem_cons_self
    have e : toNet (c :: cs) = ⟨c.2, c.1, hc⟩ :: toNet cs := by
      unfold toNet; rw [List.filterMap_cons, dif_pos hc]
    rw [e, Network.apply_cons, ← ih (fun c' h' => h c' (List.mem_cons_of_mem _ h'))]
    refine congrArg (run max min cs) (funext fun k => ?_)
    unfold step Cmpx.apply
    by_cases h1 : k = c.1
    · rw [if_pos h1, if_neg (fun h2 => hc (h2.symm.trans h1)), if_pos h1, max_comm]
    · rw [if_neg h1, if_neg h1, min_comm]

/-! ## Truth tables -/

/-- Bit `m` of `tab n k` is bit `k` of `m`, for `k < n` and `m < 2 ^ n`. -/
def tab : ℕ → ℕ → ℕ
  | 0, _ => 0
  | n + 1, k => if k = n then (2 ^ 2 ^ n - 1) <<< 2 ^ n else tab n k ||| (tab n k <<< 2 ^ n)

theorem tab_lt (n k : ℕ) : tab n k < 2 ^ 2 ^ n := by
  induction n with
  | zero => exact Nat.two_pow_pos _
  | succ n ih =>
    have h2 : 2 ^ 2 ^ (n + 1) = 2 ^ 2 ^ n * 2 ^ 2 ^ n := by rw [← pow_add, pow_succ 2 n, Nat.mul_two]
    have hs : ∀ a, a < 2 ^ 2 ^ n → a <<< 2 ^ n < 2 ^ 2 ^ (n + 1) := fun a ha => by
      rw [Nat.shiftLeft_eq, h2]; exact Nat.mul_lt_mul_of_pos_right ha (Nat.two_pow_pos _)
    unfold tab
    split
    · exact hs _ (Nat.sub_lt (Nat.two_pow_pos _) one_pos)
    · refine Nat.or_lt_two_pow (ih.trans_le ?_) (hs _ ih)
      exact Nat.pow_le_pow_right (by decide) (Nat.pow_le_pow_right (by decide) (Nat.le_succ n))

/-- Each Boolean vector is one column of the tables. -/
theorem exists_column (b : ℕ → Bool) (n : ℕ) : ∃ m, m < 2 ^ n ∧ ∀ k, k < n → (tab n k).testBit m = b k := by
  induction n with
  | zero => exact ⟨0, by decide, fun k hk => absurd hk (Nat.not_lt_zero k)⟩
  | succ n ih =>
    obtain ⟨m, hm, h⟩ := ih
    have hn : 2 ^ (n + 1) = 2 ^ n + 2 ^ n := by rw [pow_succ, Nat.mul_two]
    cases hb : b n with
    | false =>
      refine ⟨m, by omega, fun k hk => ?_⟩
      unfold tab
      by_cases e : k = n
      · rw [if_pos e, Nat.testBit_shiftLeft, decide_eq_false (by omega), Bool.false_and, e, hb]
      · rw [if_neg e, Nat.testBit_or, Nat.testBit_shiftLeft, decide_eq_false (by omega), Bool.false_and, Bool.or_false,
          h k (by omega)]
    | true =>
      refine ⟨m + 2 ^ n, by omega, fun k hk => ?_⟩
      unfold tab
      by_cases e : k = n
      · rw [if_pos e, Nat.testBit_shiftLeft, decide_eq_true (by omega), Bool.true_and, Nat.add_sub_cancel, e, hb,
          Nat.testBit_two_pow_sub_one, decide_eq_true hm]
      · rw [if_neg e, Nat.testBit_or, Nat.testBit_shiftLeft, decide_eq_true (by omega), Bool.true_and, Nat.add_sub_cancel,
          h k (by omega), Nat.testBit_lt_two_pow ((tab_lt n k).trans_le (Nat.pow_le_pow_right (by decide) (by omega))),
          Bool.false_or]

/-- On the tables, every wire contains the next. -/
theorem green_tab : ∀ k : Fin 15,
    sort16 (· ||| ·) (· &&& ·) (fun i => tab 16 i.val) k.castSucc ||| sort16 (· ||| ·) (· &&& ·) (fun i => tab 16 i.val) k.succ
      = sort16 (· ||| ·) (· &&& ·) (fun i => tab 16 i.val) k.castSucc := by
  decide +kernel

theorem green_bool (b : Fin 16 → Bool) : Antitone (sort16 max min b) := by
  obtain ⟨m, _, h⟩ := exists_column (fun k => if hk : k < 16 then b ⟨k, hk⟩ else false) 16
  have e : (fun t => (sort16 (· ||| ·) (· &&& ·) (fun i : Fin 16 => tab 16 i.val) t).testBit m) = sort16 max min b := by
    refine (map_sort16 (fun a : ℕ => a.testBit m) (· ||| ·) (· &&& ·) (max : Bool → Bool → Bool) min
      (fun a c => Nat.testBit_or a c m) (fun a c => Nat.testBit_and a c m) _).trans (congrArg _ (funext fun i => ?_))
    exact (h i.val i.isLt).trans (dif_pos i.isLt)
  rw [← e]
  refine Fin.antitone_iff_succ_le.mpr fun k => ?_
  have hk := congrArg (fun a : ℕ => a.testBit m) (green_tab k)
  simp only [Nat.testBit_or] at hk
  intro h1
  rw [h1, Bool.or_true] at hk
  exact hk.symm

theorem sort16_antitone (x : Fin 16 → α) : Antitone (sort16 max min x) := by
  have hg : ∀ c ∈ green, c.2 ≠ c.1 := by decide
  unfold sort16
  rw [run_eq_apply _ hg]
  refine Network.zero_one_on_antitone _ (fun _ => True) (fun b _ => ?_) x fun _ => trivial
  rw [← run_eq_apply _ hg]
  exact green_bool b

theorem sort16_perm (x : Fin 16 → α) : (List.ofFn (sort16 max min x)).Perm (List.ofFn x) := by
  unfold sort16
  rw [run_eq_apply _ (by decide)]
  obtain ⟨σ, hσ⟩ := Network.exists_perm (toNet green) x
  rw [hσ]
  exact Equiv.Perm.ofFn_comp_perm σ x

theorem toNet_bitonic : toNet bitonic = mergeDescNet 4 := by rfl

theorem merge16_topList (a b : Fin 16 → α) (ha : Antitone a) (hb : Antitone b) :
    Antitone (merge16 max min a b) ∧ List.ofFn (merge16 max min a b) = topList 16 (List.ofFn a ++ List.ofFn b) := by
  have h := topOfTwo_eq_topList 4 a b ha hb
  unfold merge16
  rw [run_eq_apply _ (by decide), toNet_bitonic]
  exact h

end Cert.Net
-- ==== Proof.Lists.lean ====
/-
  "Holds": sixteen values that are the sixteen greatest of a list, descending. The sort of sixteen values holds them, the merge
  of two holds the two lists together, and the order of the list does not matter.
-/
module

public import proofs.«01_k».proof.Proof.NetSort

@[expose] public section

namespace Cert.Net

open Idealize.ShloMosaic.SortNet

variable {α : Type*} [LinearOrder α]

/-- `a` is the sixteen greatest of `l`, descending. -/
def Holds (a : Fin 16 → α) (l : List α) : Prop := Antitone a ∧ List.ofFn a = topList 16 l

theorem pairwise_ofFn_of_antitone {n : ℕ} (a : Fin n → α) (h : Antitone a) : (List.ofFn a).Pairwise (· ≥ ·) :=
  List.pairwise_ofFn.mpr fun _ _ hij => h hij.le

/-- A descending family of sixteen holds itself. -/
theorem Holds.self (a : Fin 16 → α) (h : Antitone a) : Holds a (List.ofFn a) :=
  ⟨h, (topList_eq_self (pairwise_ofFn_of_antitone a h) (List.length_ofFn).le).symm⟩

theorem Holds.perm {a : Fin 16 → α} {l l' : List α} (h : Holds a l) (p : l.Perm l') : Holds a l' :=
  ⟨h.1, h.2.trans (topList_perm p)⟩

theorem Holds.sorted (x : Fin 16 → α) : Holds (sort16 max min x) (List.ofFn x) :=
  (Holds.self _ (sort16_antitone x)).perm (sort16_perm x)

theorem Holds.merge {a b : Fin 16 → α} {l l' : List α} (h : Holds a l) (h' : Holds b l') :
    Holds (merge16 max min a b) (l ++ l') := by
  obtain ⟨ha, hl⟩ := merge16_topList a b h.1 h'.1
  refine ⟨ha, hl.trans ?_⟩
  rw [h.2, h'.2, topList_append_topList_topList]

/-- Two families that hold the same list are equal. -/
theorem Holds.unique {a b : Fin 16 → α} {l : List α} (h : Holds a l) (h' : Holds b l) : a = b :=
  List.ofFn_injective (h.2.trans h'.2.symm)

/-- Entries no greater than every entry held do not matter, once the list is long enough. -/
theorem Holds.drop {a : Fin 16 → α} {l s : List α} (h : Holds a (l ++ s)) (hl : 16 ≤ l.length)
    (hs : ∀ x ∈ s, ∀ y, x ≤ y) : Holds a l :=
  ⟨h.1, h.2.trans (topList_append_of_le 16 l s hl fun x hx y _ => hs x hx y)⟩

end Cert.Net
-- ==== Proof.Best.lean ====
/-
  The running best, over the extended reals: after `n` blocks, lane `l` of row `r` holds the sixteen greatest of sixteen copies
  of minus infinity and the scaled scores of the columns `l`, `l + 128`, … of the `n` blocks.
-/
module

public import proofs.«01_k».proof.Proof.Region
public import proofs.«01_k».proof.Proof.Lists
public import Idealize.ShloMosaic.PureOps.Ideal

@[expose] public section

set_option maxRecDepth 16384

noncomputable section

namespace Cert.KernelIdeal.Body

open Cert.KernelIdeal Cert.KernelIdeal.Gen Cert.Net
open Idealize.ShloMosaic Idealize.ShloMosaic.TcCoe Idealize.ShloMosaic.Tactic
open Idealize.SL Idealize.SL.Sem
open Idealize.ShloMosaic.SortNet
open ValueIdx (ix1 ix2 ix3)

/-- Maximum and minimum, over the extended reals, are the order's. -/
theorem maximumf_ideal : (FloatOps.maximumf : Ideal .f32 → Ideal .f32 → Ideal .f32) = (max : EReal → EReal → EReal) := rfl
theorem minimumf_ideal : (FloatOps.minimumf : Ideal .f32 → Ideal .f32 → Ideal .f32) = (min : EReal → EReal → EReal) := rfl

variable (m : (ℓ : Loc nD τ sig) → Buf (Elt Ideal) ℓ) (c : Dev nD)

/-- The scaled score of row `r` against column `j` of block `t`. -/
def blockScore (t : Fin cfg0.N) (r : Fin 128) (j : Fin 2048) : EReal :=
  FloatOps.mulf (scoreAt m c t (ix2 r j)) (iblk m c 3 t (ix3 0 0 j) : Ideal .f32)

/-- The scaled scores of one lane in the first `n` blocks. -/
def laneScores (n : ℕ) (r l : Fin 128) : List EReal :=
  (List.range n).flatMap fun t => List.ofFn fun k : Fin 16 => blockScore m c (pt t) r (col k l)

theorem startBest_apply (j : S16x128x128.Idx) : (startBest (F := Ideal) j : EReal) = ⊥ := by
  show Ideal.ofBits .f32 0xFF800000#32 = ⊥
  simp [Ideal.ofBits, Ideal.ieee]

theorem nextBest_apply {F : FTy → Type} [FloatOps F] (S : S128x2048.Idx → F .f32) (D : S1x1x2048.Idx → F .f32) (B : S16x128x128.Idx → F .f32)
    (k : Fin 16) (r l : Fin 128) : nextBest S D B (ix3 k r l) = merge16 FloatOps.maximumf FloatOps.minimumf (fun k => B (ix3 k r l))
      (sort16 FloatOps.maximumf FloatOps.minimumf fun k => FloatOps.mulf (S (ix2 r (col k l))) (D (ix3 0 0 (col k l)))) k := by
  unfold nextBest; rfl

theorem bestAt_step (n : ℕ) (k : Fin 16) (r l : Fin 128) :
    (bestAt m c (n + 1) (ix3 k r l) : EReal) = merge16 (max : EReal → EReal → EReal) min (fun k => bestAt m c n (ix3 k r l))
      (sort16 max min fun k => blockScore m c (pt n) r (col k l)) k := by
  rw [bestAt, nextBest_apply, maximumf_ideal, minimumf_ideal]
  unfold blockScore
  with_reducible rfl

theorem bestAt_holds (n : ℕ) (r l : Fin 128) :
    Holds (fun k : Fin 16 => (bestAt m c n (ix3 k r l) : EReal)) (List.replicate 16 ⊥ ++ laneScores m c n r l) := by
  induction n with
  | zero =>
    have e : (fun k : Fin 16 => (bestAt m c 0 (ix3 k r l) : EReal)) = fun _ => ⊥ := funext fun k => startBest_apply _
    rw [e]
    have h := Holds.self (fun _ : Fin 16 => (⊥ : EReal)) (fun _ _ _ => le_refl _)
    rw [List.ofFn_const] at h
    show Holds _ (List.replicate 16 ⊥ ++ [])
    rw [List.append_nil]
    exact h
  | succ n ih =>
    have e : laneScores m c (n + 1) r l = laneScores m c n r l ++ List.ofFn fun k : Fin 16 => blockScore m c (pt n) r (col k l) := by
      unfold laneScores
      rw [List.range_succ, List.flatMap_append, List.flatMap_singleton]
    rw [e, ← List.append_assoc]
    rw [show (fun k : Fin 16 => (bestAt m c (n + 1) (ix3 k r l) : EReal)) = _ from funext fun k => bestAt_step m c n k r l]
    exact ih.merge (Holds.sorted _)

end Cert.KernelIdeal.Body

end
-- ==== Proof.Reads.lean ====
/-
  What the region reads: each window's block at a grid point, entry by entry, from the program's arguments.
-/
module

public import proofs.«01_k».proof.Proof.Region
public import Idealize.ShloMosaic.Lib.Pipeline.ValueKit

@[expose] public section

set_option maxRecDepth 16384

noncomputable section

namespace Cert.KernelIdeal.Body

open Cert.KernelIdeal Cert.KernelIdeal.Gen Cert.Net
open Idealize.ShloMosaic hiding ix1 ix2 ix3
open Idealize.ShloMosaic.TcCoe Idealize.ShloMosaic.Tactic
open Idealize.SL Idealize.SL.Sem
open ValueIdx (ix1 ix2 ix3)

variable {F : FTy → Type} [FloatOps F]
variable (m : (ℓ : Loc nD τ sig) → Buf (Elt F) ℓ) (c : Dev nD)

/-- Column `j` of block `t`, in the database. -/
def dbRow (t : Fin cfg0.N) (j : Fin 2048) : Fin 172032 :=
  ⟨2048 * t.val + j.val, by have h : t.val < 84 := t.isLt; have := j.isLt; omega⟩

theorem V_v0 : V m c main_v0 = shapeCast S128x2048 (m ((c.tc : Thread nD τ).loc main_arg0)) shapeCasts_S1x128x2048_S128x2048 := by
  entry_read
  try rfl

theorem V_v1 : V m c main_v1 = shapeCast S1x2048 (m ((c.tc : Thread nD τ).loc main_arg1)) shapeCasts_S2048_S1x2048 := by
  entry_read
  try rfl

theorem V_v2 : V m c main_v2 = shapeCast S84x1x2048 (m ((c.tc : Thread nD τ).loc main_arg3)) shapeCasts_S172032_S84x1x2048 := by
  entry_read
  try rfl

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0, 0] := by decide +kernel

theorem iblk0_apply (t : Fin cfg0.N) (r : Fin 128) (d : Fin 2048) :
    iblk m c 0 t (ix2 r d) = V m c main_v0 (ix2 r d) := by
  blk_simp [iblk, index0]
  refine congrArg _ (funext fun a => Fin.ext ?_)
  match a with
  | 0 => blk_simp [index0]
  | 1 => blk_simp [index0]

theorem iblk1_apply (t : Fin cfg0.N) (d : Fin 2048) :
    iblk m c 1 t (ix2 0 d) = V m c main_v1 (ix2 0 d) := by
  blk_simp [iblk, index1]
  refine congrArg _ (funext fun a => Fin.ext ?_)
  match a with
  | 0 => blk_simp [index1]
  | 1 => blk_simp [index1]

theorem iblk2_apply (t : Fin cfg0.N) (j d : Fin 2048) :
    iblk m c 2 t (ix2 j d) = m ((c.tc : Thread nD τ).loc main_arg2) (ix2 (dbRow t j) d) := by
  refine Eq.trans ?_ (congrFun (V_main_arg2 m c) (ix2 (dbRow t j) d))
  blk_simp [iblk, index2]
  refine congrArg _ (funext fun a => Fin.ext ?_)
  match a with
  | 0 =>
    blk_simp [index2]
    show t.val * 2048 + j.val = 2048 * t.val + j.val
    omega
  | 1 => blk_simp [index2]; rfl

theorem iblk3_apply (t : Fin cfg0.N) (j : Fin 2048) :
    iblk m c 3 t (ix3 0 0 j) = V m c main_v2 (ix3 (⟨t.val, t.isLt⟩ : Fin 84) 0 j) := by
  blk_simp [iblk, index3]
  refine congrArg _ (funext fun a => Fin.ext ?_)
  match a with
  | 0 => blk_simp [index3]; rfl
  | 1 => blk_simp [index3]
  | 2 => blk_simp [index3]; rfl

theorem query_apply (t : Fin cfg0.N) (r : Fin 128) (d : Fin 2048) :
    iblk m c 0 t (ix2 r d) = m ((c.tc : Thread nD τ).loc main_arg0) (ix3 0 r d) := by
  rw [iblk0_apply, V_v0]
  refine shapeCast_apply (s := S1x128x2048) _ _ _ (ix3 0 r d) ?_
  rw [Shape.rowMajor_val_three, Shape.rowMajor_val_two]
  show (0 * 128 + r.val) * 2048 + d.val = r.val * 2048 + d.val
  omega

theorem gain_apply (t : Fin cfg0.N) (d : Fin 2048) :
    iblk m c 1 t (ix2 0 d) = m ((c.tc : Thread nD τ).loc main_arg1) (ix1 d) := by
  rw [iblk1_apply, V_v1]
  refine shapeCast_apply (s := S2048) _ _ _ (ix1 d) ?_
  rw [Shape.rowMajor_val_one, Shape.rowMajor_val_two]
  show d.val = 0 * 2048 + d.val
  omega

theorem scale_apply (t : Fin cfg0.N) (j : Fin 2048) :
    iblk m c 3 t (ix3 0 0 j) = m ((c.tc : Thread nD τ).loc main_arg3) (ix1 (dbRow t j)) := by
  rw [iblk3_apply, V_v2]
  refine shapeCast_apply (s := S172032) _ _ _ (ix1 (dbRow t j)) ?_
  rw [Shape.rowMajor_val_one, Shape.rowMajor_val_three]
  show 2048 * t.val + j.val = (t.val * 1 + 0) * 2048 + j.val
  omega

end Cert.KernelIdeal.Body

end
-- ==== Proof.Scores.lean ====
/-
  The two values the kernel computes before it ranks anything, over the extended reals: the normalized queries are the
  reference's, and the scaled score of row `r` against column `j` of block `t` is the reference's score of row `r` against
  database row `2048 t + j`.
-/
module

public import proofs.«01_k».proof.Proof.Best
public import proofs.«01_k».proof.Proof.Reads
public import proofs.«01_k».proof.Proof.Gen.ReferenceIdeal.Read
public import Idealize.ShloMosaic.Lib.ValueLayoutCasts

@[expose] public section

set_option maxRecDepth 16384

noncomputable section

namespace Cert.KernelIdeal.Body

open Cert.KernelIdeal Cert.KernelIdeal.Gen
open Cert.ReferenceIdeal.Read
open Idealize.ShloMosaic hiding ix1 ix2 ix3
open Idealize.ShloMosaic.TcCoe
open Idealize.SL.Sem
open ValueIdx (ix1 ix2 ix3)

section Any
variable {F : FTy → Type} [FloatOps F]

/-- The sum of a row's squares. -/
def squares (x : Vec F S128x2048 .bf16) : FVec F S128 .f32 :=
  multiReduction .add [1] S128 (mulf (extf .f32 x bitsLt_bf16_f32) (extf .f32 x bitsLt_bf16_f32)) 0x00000000#32 reduces_S128x2048_S128 (.inl rfl) rfl

/-- The normalized queries at an index. -/
theorem qnOf_apply (x : Vec F S128x2048 .bf16) (g : Vec F S1x2048 .f32) (r : Fin 128) (d : Fin 2048) :
    qnOf x g (ix2 r d) = FloatOps.truncf .bf16 bitsLt_bf16_f32 (FloatOps.mulf (FloatOps.mulf (FloatOps.extf .f32 bitsLt_bf16_f32 (x (ix2 r d)))
      (FloatOps.rsqrt (FloatOps.addf (FloatOps.divf (squares x (ix1 r)) (FloatOps.ofBits .f32 0x45000000#32)) (FloatOps.ofBits .f32 0x358637BD#32))))
      (g (ix2 0 d))) := by
  unfold qnOf
  rw [shapeCast_self, shapeCast_self]
  refine congrArg (FloatOps.truncf .bf16 bitsLt_bf16_f32) (congrArg₂ FloatOps.mulf (congrArg₂ FloatOps.mulf rfl ?_) ?_)
  · refine (broadcastTo_apply _ _ _ (ix2 r (0 : Fin 1)) fun a => ?_).trans ?_
    · match a with
      | 0 => rfl
      | 1 => rfl
    · refine congrArg FloatOps.rsqrt (congrArg₂ FloatOps.addf (congrArg₂ FloatOps.divf ?_ rfl) rfl)
      exact ValueIdx.shapeCast_a_a1_apply (squares x) shapeCasts_S128_S128x1 r 0
  · refine broadcastTo_apply _ _ _ (ix2 (0 : Fin 1) d) fun a => ?_
    match a with
    | 0 => rfl
    | 1 => rfl

end Any

/-- The sum of a row's squares, as a sum over the row. -/
theorem squares_apply (x : Vec Ideal S128x2048 .bf16) (r : Fin 128) :
    (squares x (ix1 r) : EReal) = ∑ d : Fin 2048, (x (ix2 r d) : EReal) * (x (ix2 r d) : EReal) := by
  unfold squares
  refine (Ideal.multiReduction_add_single _ _ reduces_S128x2048_S128 _ _ _).trans ?_
  refine Finset.sum_congr rfl fun d _ => ?_
  have e : reduces_S128x2048_S128.lift (ix1 r) d = ix2 r d := funext fun a => Fin.ext (by
    match a with
    | 0 => rfl
    | 1 => rfl)
  rw [e]
  rfl

variable (m : (ℓ : Loc nD τ sig) → Buf (Elt Ideal) ℓ) (c : Dev nD)

/-- The queries, gain, codes and scales as passed. -/
abbrev arg0 : (⟨S1x128x2048, .bf16⟩ : BufTy).Contents (Elt Ideal) := m ((c.tc : Thread nD τ).loc main_arg0)
abbrev arg1 : (⟨S2048, .f32⟩ : BufTy).Contents (Elt Ideal) := m ((c.tc : Thread nD τ).loc main_arg1)
abbrev arg2 : (⟨S172032x2048, .i8⟩ : BufTy).Contents (Elt Ideal) := m ((c.tc : Thread nD τ).loc main_arg2)
abbrev arg3 : (⟨S172032, .f32⟩ : BufTy).Contents (Elt Ideal) := m ((c.tc : Thread nD τ).loc main_arg3)

/-- The sum of squares of a query row is the reference's. -/
theorem squares_query (r : Fin 128) (d : Fin 2048) : (squares (iblk m c 0 t0) (ix1 r) : EReal)
    = ∑ k : Fin 2048, val_main_v1 (F := Ideal) (arg0 m c) (idx_main_v2 (idx_main_v3 (idx_main_v9 (ix3 0 r d))) k) := by
  refine (squares_apply _ r).trans (Finset.sum_congr rfl fun k _ => ?_)
  rw [query_apply, val_main_v1_apply, val_main_v0_apply]
  have e : idx_main_v2 (idx_main_v3 (idx_main_v9 (ix3 0 r d))) k = ix3 0 r k := funext fun a => Fin.ext (by
    match a with
    | 0 => rfl
    | 1 => rfl
    | 2 => rfl)
  rw [e]
  rfl

/-- The normalized queries are the reference's. -/
theorem qn_eq (r : Fin 128) (d : Fin 2048) :
    (qn m c (ix2 r d) : EReal) = val_main_v14 (F := Ideal) (arg0 m c) (arg1 m c) (ix3 0 r d) := by
  unfold qn
  rw [qnOf_apply, query_apply, gain_apply, squares_query m c r d]
  rw [val_main_v14_apply, val_main_v13_apply, val_main_v10_apply, val_main_v9_apply, val_main_v8_apply, val_main_v7_apply, val_main_v5_apply,
    val_main_v3_apply, val_main_v2_apply, val_main_v4_apply, val_main_v6_apply, val_main_v12_apply, val_main_v11_apply, val_main_v0_apply]
  have z : (val_main_cst (F := Ideal)) (Shape.Idx.first Cert.ReferenceIdeal.Gen.h_S_) = (0 : EReal) := Ideal.ofBits_zero_f32
  rw [z, zero_add]
  simp only [Ideal.hostDivf_def, Ideal.divf_def, Ideal.hostUnary_rsqrt_def, Ideal.rsqrt_def]
  have e : idx_main_v11 (idx_main_v12 (ix3 0 r d)) = ix1 d := funext fun a => Fin.ext (by
    match a with
    | 0 => rfl)
  rw [e]
  rfl

/-- A code as a number, by either conversion. -/
theorem code_eq (b : BitVec 8) : (FloatOps.sitofp .bf16 b : Ideal .bf16)
    = FloatOps.truncf .bf16 Cert.ReferenceIdeal.Gen.bitsLt_bf16_f32 (FloatOps.sitofp .f32 (b.signExtend 32) : Ideal .f32) := by
  show (((b.toInt : ℤ) : ℝ) : EReal) = ((((b.signExtend 32).toInt : ℤ) : ℝ) : EReal)
  rw [BitVec.toInt_signExtend_of_le (by decide)]

theorem left_row (i : S128x2048.Idx) (q : dot_S128x2048_S2048x2048_S128x2048_1_1_0_0_n_n.contr.Idx) : (dot_S128x2048_S2048x2048_S128x2048_1_1_0_0_n_n.lhsIdx i q 0).val = (i 0).val := by
  unfold DotDims.lhsIdx
  rw [dif_neg (show ¬(0 : Fin S128x2048.rank) ∈ dot_S128x2048_S2048x2048_S128x2048_1_1_0_0_n_n.lhsBatch by decide), dif_pos (show (0 : Fin S128x2048.rank) ∈ dot_S128x2048_S2048x2048_S128x2048_1_1_0_0_n_n.lhsNonContracting by decide)]
  rfl

theorem right_row (i : S128x2048.Idx) (q : dot_S128x2048_S2048x2048_S128x2048_1_1_0_0_n_n.contr.Idx) : (dot_S128x2048_S2048x2048_S128x2048_1_1_0_0_n_n.rhsIdx i q 0).val = (i 1).val := by
  unfold DotDims.rhsIdx
  rw [dif_neg (show ¬(0 : Fin S2048x2048.rank) ∈ dot_S128x2048_S2048x2048_S128x2048_1_1_0_0_n_n.rhsBatch by decide), dif_pos (show (0 : Fin S2048x2048.rank) ∈ dot_S128x2048_S2048x2048_S128x2048_1_1_0_0_n_n.rhsNonContracting by decide)]
  rfl

/-- The dot product of row `r` with column `j` of block `t`. -/
theorem scoreAt_eq (t : Fin cfg0.N) (r : Fin 128) (j : Fin 2048) :
    (scoreAt m c t (ix2 r j) : EReal) = val_main_v19 (F := Ideal) (arg0 m c) (arg1 m c) (arg2 m c) (ix2 r (dbRow t j)) := by
  rw [val_main_v19_apply]
  unfold scoreAt scoreOf
  rw [shapeCast_self, shapeCast_self]
  refine (Ideal.matmul_constant_zero_apply dot_S128x2048_S2048x2048_S128x2048_1_1_0_0_n_n none _ _ (ix2 r j)).trans ?_
  rw [← Equiv.sum_comp (ValueIdx.contrEquiv1 dot_S128x2048_S2048x2048_S128x2048_1_1_0_0_n_n 2048 rfl rfl).symm]
  refine Finset.sum_congr rfl fun k _ => ?_
  have hk := ValueIdx.contrEquiv1_symm_val dot_S128x2048_S2048x2048_S128x2048_1_1_0_0_n_n 2048 rfl rfl k
  have el : dot_S128x2048_S2048x2048_S128x2048_1_1_0_0_n_n.lhsIdx (ix2 r j) ((ValueIdx.contrEquiv1 dot_S128x2048_S2048x2048_S128x2048_1_1_0_0_n_n 2048 rfl rfl).symm k)
      = ix2 r k := funext fun a => Fin.ext (by
    match a with
    | ⟨0, _⟩ => exact left_row _ _
    | ⟨1, _⟩ => exact (dot_S128x2048_S2048x2048_S128x2048_1_1_0_0_n_n.lhsIdx_val_of_single rfl (ix2 r j) _).trans hk)
  have er : dot_S128x2048_S2048x2048_S128x2048_1_1_0_0_n_n.rhsIdx (ix2 r j) ((ValueIdx.contrEquiv1 dot_S128x2048_S2048x2048_S128x2048_1_1_0_0_n_n 2048 rfl rfl).symm k)
      = ix2 j k := funext fun a => Fin.ext (by
    match a with
    | ⟨0, _⟩ => exact right_row _ _
    | ⟨1, _⟩ => exact (dot_S128x2048_S2048x2048_S128x2048_1_1_0_0_n_n.rhsIdx_val_of_single rfl (ix2 r j) _).trans hk)
  rw [el, er, val_main_v15_apply, val_main_v18_apply, val_main_v17_apply, val_main_v16_apply]
  refine congrArg₂ (fun a b : EReal => a * b) ?_ ?_
  · rw [qn_eq]
    refine congrArg _ (funext fun a => Fin.ext ?_)
    have hr := r.isLt
    have hk' := k.isLt
    match a with
    | 0 => rfl
    | 1 =>
      show r.val = (r.val * 2048 + k.val) / 2048 % 128
      omega
    | 2 =>
      show k.val = (r.val * 2048 + k.val) % 2048
      omega
  · show (FloatOps.sitofp .bf16 (iblk m c 2 t (ix2 j k)) : Ideal .bf16) = _
    rw [code_eq, iblk2_apply]
    refine congrArg (fun i => (FloatOps.truncf .bf16 Cert.ReferenceIdeal.Gen.bitsLt_bf16_f32 (FloatOps.sitofp .f32 ((arg2 m c i).signExtend 32) : Ideal .f32) : Ideal .bf16)) (funext fun a => Fin.ext ?_)
    match a with
    | 0 => rfl
    | 1 => rfl

/-- The scaled score of row `r` against column `j` of block `t` is the reference's against database row `2048 t + j`. -/
theorem blockScore_eq (t : Fin cfg0.N) (r : Fin 128) (j : Fin 2048) :
    blockScore m c t r j = val_main_v22 (F := Ideal) (arg0 m c) (arg1 m c) (arg2 m c) (arg3 m c) (ix2 r (dbRow t j)) := by
  unfold blockScore
  rw [val_main_v22_apply, val_main_v21_apply, val_main_v20_apply, scale_apply]
  refine congrArg₂ (fun a b : EReal => a * b) (scoreAt_eq m c t r j) ?_
  refine congrArg (arg3 m c) (funext fun a => Fin.ext ?_)
  match a with
  | 0 => rfl

end Cert.KernelIdeal.Body

end
-- ==== Proof.Order.lean ====
/-
  The order in which the kernel meets the database rows: lane by lane, and in a lane block by block, it meets every row
  exactly once.
-/
module

public import proofs.«01_k».proof.Proof.Lists

@[expose] public section

namespace Cert.Net

/-- The database row of entry `k` of lane `l` in block `t`. -/
def rowOf (l : Fin 128) (t : Fin 84) (k : Fin 16) : Fin 172032 := ⟨2048 * t.val + (128 * k.val + l.val), by omega⟩

/-- Every database row, lane by lane, block by block. -/
def rows : List (Fin 172032) :=
  (List.finRange 128).flatMap fun l => (List.finRange 84).flatMap fun t => (List.finRange 16).map fun k => rowOf l t k

theorem rowOf_inj {l l' : Fin 128} {t t' : Fin 84} {k k' : Fin 16} (h : rowOf l t k = rowOf l' t' k') : l = l' ∧ t = t' ∧ k = k' := by
  have h' : 2048 * t.val + (128 * k.val + l.val) = 2048 * t'.val + (128 * k'.val + l'.val) := congrArg Fin.val h
  refine ⟨Fin.ext ?_, Fin.ext ?_, Fin.ext ?_⟩ <;> omega

theorem rows_nodup : rows.Nodup := by
  unfold rows
  rw [List.nodup_flatMap]
  refine ⟨fun l _ => ?_, ?_⟩
  · rw [List.nodup_flatMap]
    refine ⟨fun t _ => (List.nodup_finRange 16).map fun k k' h => (rowOf_inj h).2.2, ?_⟩
    refine (List.nodup_finRange 84).imp fun {t t'} h => ?_
    rw [Function.onFun, List.disjoint_left]
    intro x hx hx'
    obtain ⟨k, -, rfl⟩ := List.mem_map.1 hx
    obtain ⟨k', -, e⟩ := List.mem_map.1 hx'
    exact h (rowOf_inj e).2.1.symm
  · refine (List.nodup_finRange 128).imp fun {l l'} h => ?_
    rw [Function.onFun, List.disjoint_left]
    intro x hx hx'
    obtain ⟨t, -, hx⟩ := List.mem_flatMap.1 hx
    obtain ⟨k, -, rfl⟩ := List.mem_map.1 hx
    obtain ⟨t', -, hx'⟩ := List.mem_flatMap.1 hx'
    obtain ⟨k', -, e⟩ := List.mem_map.1 hx'
    exact h (rowOf_inj e).1.symm

theorem mem_rows (x : Fin 172032) : x ∈ rows := by
  have hx := x.isLt
  refine List.mem_flatMap.2 ⟨⟨x.val % 128, by omega⟩, List.mem_finRange _, List.mem_flatMap.2 ⟨⟨x.val / 2048, by omega⟩, List.mem_finRange _, ?_⟩⟩
  refine List.mem_map.2 ⟨⟨x.val / 128 % 16, by omega⟩, List.mem_finRange _, Fin.ext ?_⟩
  show 2048 * (x.val / 2048) + (128 * (x.val / 128 % 16) + x.val % 128) = x.val
  omega

theorem rows_perm : rows.Perm (List.finRange 172032) :=
  (List.perm_ext_iff_of_nodup rows_nodup (List.nodup_finRange _)).2 fun x => ⟨fun _ => List.mem_finRange x, fun _ => mem_rows x⟩

/-- A function's values, lane by lane and block by block, are its values in order, rearranged. -/
theorem values_perm {α : Type*} (f : Fin 172032 → α) :
    ((List.finRange 128).flatMap fun l => (List.finRange 84).flatMap fun t => List.ofFn fun k : Fin 16 => f (rowOf l t k)).Perm (List.ofFn f) := by
  have e : ((List.finRange 128).flatMap fun l => (List.finRange 84).flatMap fun t => List.ofFn fun k : Fin 16 => f (rowOf l t k)) = rows.map f := by
    unfold rows
    simp only [List.map_flatMap, List.map_map, List.ofFn_eq_map]
    rfl
  rw [e, List.ofFn_eq_map]
  exact rows_perm.map f

end Cert.Net
-- ==== Proof.Final.lean ====
/-
  The final merge, over the extended reals: if plane `t` at lane `l` of row `r` is entry `t` of a family that holds the list
  `R l`, then entry `t` of what is stored for row `r` is entry `t` of a family that holds the lists of all 128 lanes.
-/
module

public import proofs.«01_k».proof.Proof.Tail
public import proofs.«01_k».proof.Proof.Lists
public import Idealize.ShloMosaic.PureOps.Ideal
public import Idealize.ShloMosaic.Lib.Pipeline.Value
public import Idealize.ShloMosaic.Lib.ValueIdx

@[expose] public section

set_option maxRecDepth 16384

noncomputable section

namespace Cert.KernelIdeal.Body

open Cert.KernelIdeal Cert.KernelIdeal.Gen Cert.Net
open Idealize.ShloMosaic Idealize.ShloMosaic.TcCoe
open ValueIdx (ix1 ix2 ix3)

/-- Sixteen vectors at sublane `s` and column `r`. -/
def at8 (w : Fin 16 → Vec Ideal S8x128 .f32) (s : Fin 8) (r : Fin 128) : Fin 16 → EReal := fun t => w t (ix2 s r)

/-- Lane `8 k + s`. -/
def lane (k : Fin 16) (s : Fin 8) : Fin 128 := ⟨8 * k.val + s.val, by have := k.isLt; have := s.isLt; omega⟩

/-- The sublane `n` before `s`, around. -/
def back (n : ℕ) (s : Fin 8) : Fin 8 := ⟨(s.val + 8 - n % 8) % 8, Nat.mod_lt _ (by decide)⟩

theorem at8_slab (v : Fin 16 → Vec Ideal S128x128 .f32) (k : Fin 16) (s : Fin 8) (r : Fin 128) :
    at8 (slab v k) s r = fun t => v t (ix2 (lane k s) r) := by
  funext t
  unfold at8 slab
  refine extractStridedSlice_apply _ _ _ _ _ fun a => ?_
  match a with
  | 0 => rfl
  | 1 => exact (Nat.zero_add _).symm

theorem at8_mrg (a b : Fin 16 → Vec Ideal S8x128 .f32) (s : Fin 8) (r : Fin 128) :
    at8 (mrg a b) s r = merge16 max min (at8 a s r) (at8 b s r) := by
  unfold at8 mrg
  refine map_merge16 (fun x : Vec Ideal S8x128 .f32 => (x (ix2 s r) : EReal)) _ _ max min ?_ ?_ a b
  · intro x y; rfl
  · intro x y; rfl

theorem at8_roll (n : BitVec 32) (v : Fin 16 → Vec Ideal S8x128 .f32) (s : Fin 8) (r : Fin 128) :
    at8 (fun t => dynamicRotate 0 n none (v t) rotates_S8x128_d0) s r = at8 v (back n.toNat s) r := by
  funext t
  unfold at8 dynamicRotate
  refine congrArg (v t) (funext fun b => ?_)
  match b with
  | 0 => rfl
  | 1 => rfl

section
variable (R : Fin 128 → List EReal)

/-- A family holds the lists of the lanes `I`. -/
def HoldsAll (a : Fin 16 → EReal) (I : List (Fin 128)) : Prop := Holds a (I.flatMap R)

theorem HoldsAll.mrg {a b : Fin 16 → Vec Ideal S8x128 .f32} {s : Fin 8} {r : Fin 128} {I J : List (Fin 128)}
    (ha : HoldsAll R (at8 a s r) I) (hb : HoldsAll R (at8 b s r) J) : HoldsAll R (at8 (Body.mrg a b) s r) (I ++ J) := by
  unfold HoldsAll
  rw [at8_mrg, List.flatMap_append]
  exact Holds.merge ha hb

/-- The lanes merged by the sixteen slabs' merges, -/
def treeLanes (s : Fin 8) : List (Fin 128) :=
  ((([lane 0 s] ++ [lane 1 s]) ++ ([lane 2 s] ++ [lane 3 s])) ++ (([lane 4 s] ++ [lane 5 s]) ++ ([lane 6 s] ++ [lane 7 s])))
    ++ ((([lane 8 s] ++ [lane 9 s]) ++ ([lane 10 s] ++ [lane 11 s])) ++ (([lane 12 s] ++ [lane 13 s]) ++ ([lane 14 s] ++ [lane 15 s])))

/-- and by a merge with a rotation. -/
def rollLanes (n : ℕ) (I : Fin 8 → List (Fin 128)) (s : Fin 8) : List (Fin 128) := I s ++ I (back n s)

theorem tree_holds (v : Fin 16 → Vec Ideal S128x128 .f32) (r : Fin 128) (h : ∀ l, Holds (fun t => (v t (ix2 l r) : EReal)) (R l)) (s : Fin 8) :
    HoldsAll R (at8 (tree v) s r) (treeLanes s) := by
  have h0 : ∀ k, HoldsAll R (at8 (slab v k) s r) [lane k s] := fun k => by
    unfold HoldsAll
    rw [at8_slab, List.flatMap_singleton]
    exact h _
  unfold tree treeLanes
  exact .mrg R (.mrg R (.mrg R (.mrg R (h0 0) (h0 1)) (.mrg R (h0 2) (h0 3))) (.mrg R (.mrg R (h0 4) (h0 5)) (.mrg R (h0 6) (h0 7))))
    (.mrg R (.mrg R (.mrg R (h0 8) (h0 9)) (.mrg R (h0 10) (h0 11))) (.mrg R (.mrg R (h0 12) (h0 13)) (.mrg R (h0 14) (h0 15))))

theorem roll_holds (n : BitVec 32) (v : Fin 16 → Vec Ideal S8x128 .f32) (r : Fin 128) (I : Fin 8 → List (Fin 128))
    (h : ∀ s, HoldsAll R (at8 v s r) (I s)) (s : Fin 8) : HoldsAll R (at8 (rollMerge n v) s r) (rollLanes n.toNat I s) := by
  unfold rollMerge rollLanes
  refine .mrg R (h s) ?_
  rw [at8_roll]
  exact h _

/-- All 128 lanes, each once. -/
theorem lanes_perm : (rollLanes 1 (rollLanes 2 (rollLanes 4 treeLanes)) 0).Perm (List.finRange 128) := by decide +kernel

theorem topOf_apply (v : Fin 16 → Vec Ideal S128x128 .f32) (t : Fin 16) (r : Fin 128) :
    topOf v (ix2 t r) = rollMerge 1#32 (rollMerge 2#32 (rollMerge 4#32 (tree v))) t (ix2 0 r) := by
  unfold topOf
  generalize rollMerge 1#32 (rollMerge 2#32 (rollMerge 4#32 (tree v))) = w
  refine (concatenate_ofFn_unit_apply (t := S16x128) (s₁ := S1x128) 0 (fun t : Fin 16 => row0 (w t)) concatenates_S1x128_S1x128_S1x128_S1x128_S1x128_S1x128_S1x128_S1x128_S1x128_S1x128_S1x128_S1x128_S1x128_S1x128_S1x128_S1x128_S16x128_d0 rfl rfl
    (ix2 t r) t rfl (ix2 0 r) fun b hb => ?_).trans ?_
  · match b with
    | 0 => exact absurd rfl hb
    | 1 => rfl
  · refine extractStridedSlice_apply _ _ _ _ _ fun a => ?_
    match a with
    | 0 => rfl
    | 1 => exact (Nat.zero_add _).symm

/-- What is stored for row `r` holds all the lanes' lists. -/
theorem topOf_holds (v : Fin 16 → Vec Ideal S128x128 .f32) (r : Fin 128) (h : ∀ l, Holds (fun t => (v t (ix2 l r) : EReal)) (R l)) :
    Holds (fun t : Fin 16 => (topOf v (ix2 t r) : EReal)) ((List.finRange 128).flatMap R) := by
  rw [show (fun t : Fin 16 => (topOf v (ix2 t r) : EReal)) = _ from funext fun t => topOf_apply v t r]
  refine Holds.perm (roll_holds R 1#32 _ r _ (roll_holds R 2#32 _ r _ (roll_holds R 4#32 _ r _ (tree_holds R v r h))) 0) ?_
  exact lanes_perm.flatMap_right R

end

end Cert.KernelIdeal.Body

end
-- ==== Proof.RefTop.lean ====
/-
  What the reference's top-k leaves: entry `t` of row `r` is entry `t` of a family that holds the row's 172032 scaled scores.
-/
module

public import proofs.«01_k».proof.Proof.Gen.ReferenceIdeal.Read
public import proofs.«01_k».proof.Proof.Lists
public import Idealize.ShloMosaic.Lib.SortFacts
public import Idealize.ShloMosaic.Lib.SortNet.Positions

@[expose] public section

noncomputable section

namespace Cert.Net

open Idealize.ShloMosaic Idealize.ShloMosaic.SortNet

variable {α : Type*} [LinearOrder α]

/-- The first sixteen of a stable sort, greater first, hold the list. -/
theorem sortedFrom_holds {n : ℕ} (hn : 16 ≤ n) (e : Fin n → α) :
    Holds (fun t : Fin 16 => e (sortedFrom (greaterFirst e) (t.castLE hn))) (List.ofFn e) := by
  have hd : Antitone fun i => e (sortedFrom (greaterFirst e) i) := by
    intro i j hij
    rcases hij.lt_or_eq with h | h
    · have := sortedFrom_noInversion (greaterFirst e) (greaterFirst e)
        (fun a b h => decide_eq_false (not_lt.mpr (of_decide_eq_true h).le)) (fun _ _ h => h)
        (fun a b c h h' => decide_eq_false (not_lt.mpr ((not_lt.mp (of_decide_eq_false h)).trans (not_lt.mp (of_decide_eq_false h')))))
        i j h
      exact not_lt.mp (of_decide_eq_false this)
    · rw [h]
  refine ⟨fun i j hij => hd (Fin.castLE_le_castLE_iff hn |>.mpr hij), ?_⟩
  have hL : (List.ofFn e).insertionSort (· ≥ ·) = List.ofFn fun i => e (sortedFrom (greaterFirst e) i) := by
    refine eq_of_perm_of_descending ((List.perm_insertionSort _ _).trans ?_) (List.pairwise_insertionSort _ _) (pairwise_ofFn_of_antitone _ hd)
    exact (Equiv.Perm.ofFn_comp_perm (Equiv.ofBijective _ ⟨sortedFrom_injective (greaterFirst e), sortedFrom_surjective (greaterFirst e)⟩) e).symm
  unfold topList
  rw [hL]
  refine List.ext_getElem (by simp [hn]) fun i h1 h2 => ?_
  rw [List.getElem_ofFn, List.getElem_take, List.getElem_ofFn]
  rfl

end Cert.Net

namespace Cert.ReferenceIdeal.Top

open Cert.ReferenceIdeal Cert.ReferenceIdeal.Gen Cert.Net
open Idealize.ShloMosaic Idealize.ShloMosaic.TcCoe Idealize.ShloMosaic.SortNet
open ValueIdx (ix1 ix2 ix3)

theorem cmp_eq (a b : EReal) : ((FloatOps.cmpfTotal (F := Ideal) (φ := .f32) .gt a b) == 1#1) = decide (b < a) := by
  show (BitVec.ofBool (decide (b < a)) == 1#1) = decide (b < a)
  cases decide (b < a) <;> rfl

theorem along_eq (r : Fin 128) (k k' : Fin 172032) : Shape.Idx.along (s := S128x172032) (ix2 r k) 1 k' = ix2 r k' := by
  funext b
  match b with
  | 0 => rfl
  | 1 => rfl

theorem topK_holds (x : FVec Ideal S128x172032 .f32) (r : Fin 128) :
    Holds (fun t : Fin 16 => ((Host.topK S128x16 1 (FloatOps.cmpfTotal .gt) x sliceFits_S128x172032_S128x16).1 (ix2 r t) : EReal))
      (List.ofFn fun j : Fin 172032 => (x (ix2 r j) : EReal)) := by
  have h := sortedFrom_holds (n := 172032) (by decide) (fun j : Fin 172032 => (x (ix2 r j) : EReal))
  have e : (fun t : Fin 16 => ((Host.topK S128x16 1 (FloatOps.cmpfTotal .gt) x sliceFits_S128x172032_S128x16).1 (ix2 r t) : EReal))
      = fun t : Fin 16 => (x (ix2 r (sortedFrom (greaterFirst fun j : Fin 172032 => (x (ix2 r j) : EReal)) (t.castLE (show 16 ≤ 172032 by decide)))) : EReal) := by
    funext t
    unfold Host.topK
    dsimp only
    refine (extractStridedSlice_apply _ _ _ _ (ix2 r (t.castLE (show 16 ≤ 172032 by decide))) fun a => ?_).trans ?_
    · match a with
      | 0 => exact (Nat.zero_add _).symm
      | 1 => exact (Nat.zero_add _).symm
    · unfold Host.sort2
      rw [dif_pos (by decide)]
      refine (congrArg x (along_eq r _ _)).trans ?_
      refine congrArg (fun B => x (ix2 r (sortedFrom B (t.castLE (show 16 ≤ 172032 by decide))))) (funext fun k => funext fun k' => ?_)
      refine (cmp_eq _ _).trans ?_
      exact congrArg₂ (fun i j => decide ((x i : EReal) < x j)) (along_eq r _ _) (along_eq r _ _)
  rw [e]
  exact h

end Cert.ReferenceIdeal.Top

end
-- ==== Proof.Ranked.lean ====
/-
  What the kernel stores as the best scores, over the extended reals, is what the reference's ranking of all scores gives.
-/
module

public import proofs.«01_k».proof.Proof.Scores
public import proofs.«01_k».proof.Proof.Order
public import proofs.«01_k».proof.Proof.Final
public import proofs.«01_k».proof.Proof.RefTop

@[expose] public section

set_option maxRecDepth 16384

noncomputable section

namespace Cert.KernelIdeal.Body

open Cert.KernelIdeal Cert.KernelIdeal.Gen Cert.Net
open Cert.ReferenceIdeal.Read
open Idealize.ShloMosaic hiding ix1 ix2 ix3
open Idealize.ShloMosaic.TcCoe
open Idealize.SL.Sem
open ValueIdx (ix1 ix2 ix3)

/-- A plane is one rank of the running best, its lanes now rows. -/
theorem planesOf_apply {F : FTy → Type} [FloatOps F] (B : S16x128x128.Idx → F .f32) (t : Fin 16) (l r : Fin 128) :
    planesOf B t (ix2 l r) = B (ix3 t r l) := by
  unfold planesOf flip
  refine (transpose_apply _ _ _ (ix2 l r) (ix2 r l) fun b => ?_).trans ?_
  · match b with
    | 0 => rfl
    | 1 => rfl
  refine (shapeCast_apply (s := S1x128x128) _ _ (ix2 r l) (ix3 0 r l) ?_).trans ?_
  · rw [Shape.rowMajor_val_three, Shape.rowMajor_val_two]
    show (0 * 128 + r.val) * 128 + l.val = r.val * 128 + l.val
    omega
  refine congrArg B (funext fun a => Fin.ext ?_)
  match a with
  | 0 => show t.val + 0 = t.val; omega
  | 1 => show 0 + 1 * r.val = r.val; omega
  | 2 => show 0 + 1 * l.val = l.val; omega

theorem range_flatMap {α : Type*} (n : ℕ) (f : ℕ → List α) : (List.range n).flatMap f = (List.finRange n).flatMap fun t => f t.val := by
  rw [← List.map_coe_finRange_eq_range, List.flatMap_map]

variable (m : (ℓ : Loc nD τ sig) → Buf (Elt Ideal) ℓ) (c : Dev nD)

/-- The reference's score of row `r` against a database row. -/
def refScore (r : Fin 128) (j : Fin 172032) : EReal :=
  val_main_v22 (F := Ideal) (arg0 m c) (arg1 m c) (arg2 m c) (arg3 m c) (ix2 r j)

/-- A lane's scores are the reference's against the lane's database rows. -/
theorem laneScores_eq (r l : Fin 128) :
    laneScores m c 84 r l = (List.finRange 84).flatMap fun t => List.ofFn fun k : Fin 16 => refScore m c r (rowOf l t k) := by
  unfold laneScores
  rw [range_flatMap]
  refine congrArg (fun f => (List.finRange 84).flatMap f) (funext fun t => congrArg List.ofFn (funext fun k => ?_))
  rw [blockScore_eq]
  unfold refScore
  refine congrArg (fun j => val_main_v22 (F := Ideal) (arg0 m c) (arg1 m c) (arg2 m c) (arg3 m c) (ix2 r j)) (Fin.ext ?_)
  have e : (pt t.val).val = t.val := congrArg Fin.val (pt_val (t : Fin cfg0.N))
  show 2048 * (pt t.val).val + (128 * k.val + l.val) = 2048 * t.val + (128 * k.val + l.val)
  rw [e]

/-- What is stored for a row holds all its scores' sixteen greatest. -/
theorem stored_holds (r : Fin 128) :
    Holds (fun t : Fin 16 => (topOf (planesOf (bestAt m c 84)) (ix2 t r) : EReal)) (List.ofFn (refScore m c r)) := by
  have h := topOf_holds (fun l => List.replicate 16 ⊥ ++ laneScores m c 84 r l) (planesOf (bestAt m c 84)) r fun l => by
    simp only [planesOf_apply]
    exact bestAt_holds m c 84 r l
  have p : ((List.finRange 128).flatMap fun l => List.replicate 16 (⊥ : EReal) ++ laneScores m c 84 r l).Perm
      (List.ofFn (refScore m c r) ++ (List.finRange 128).flatMap fun _ => List.replicate 16 (⊥ : EReal)) := by
    refine (List.flatMap_append_perm _ _ _).symm.trans (List.perm_append_comm.trans (List.Perm.append_right _ ?_))
    rw [show laneScores m c 84 r = _ from funext fun l => laneScores_eq m c r l]
    exact values_perm (refScore m c r)
  refine (h.perm p).drop ?_ ?_
  · rw [List.length_ofFn]; decide
  · intro x hx y
    obtain ⟨_, _, hx⟩ := List.mem_flatMap.1 hx
    rw [List.eq_of_mem_replicate hx]
    exact bot_le

/-- The stored scores are the reference's. -/
theorem stored_eq (t : Fin 16) (r : Fin 128) : (topOf (planesOf (bestAt m c 84)) (ix2 t r) : EReal)
    = val_main_values (F := Ideal) (arg0 m c) (arg1 m c) (arg2 m c) (arg3 m c) (ix2 r t) :=
  congrFun ((stored_holds m c r).unique (Cert.ReferenceIdeal.Top.topK_holds (val_main_v22 (F := Ideal) (arg0 m c) (arg1 m c) (arg2 m c) (arg3 m c)) r)) t

end Cert.KernelIdeal.Body

end
-- ==== Proof.Output.lean ====
/-
  What a run leaves in the two results: the host operations after the region transpose and reshape the stored scores, and
  reshape the normalized queries.
-/
module

public import proofs.«01_k».proof.Proof.Frames
public import proofs.«01_k».proof.Proof.Ranked
public import Idealize.ShloMosaic.Lib.Pipeline.ValueKit

@[expose] public section

set_option maxRecDepth 16384

noncomputable section

namespace Cert.KernelIdeal.Body

open Cert.KernelIdeal Cert.KernelIdeal.Gen
open Cert.ReferenceIdeal.Read
open Idealize.ShloMosaic hiding ix1 ix2 ix3
open Idealize.ShloMosaic.TcCoe Idealize.ShloMosaic.Tactic
open Idealize.SL Idealize.SL.Sem
open ValueIdx (ix1 ix2 ix3)

section Any
variable {F : FTy → Type} [FloatOps F]
variable (m : (ℓ : Loc nD τ sig) → Buf (Elt F) ℓ) (c : Dev nD)

/-- The last grid point. -/
def tLast : Fin cfg0.N := ⟨83, by decide⟩

/-- The stored scores, as the region leaves them. -/
theorem arr4 : (dat m c).arrAt 4 cfg0.N = topOf (planesOf (bestAt m c 84)) :=
  (dat m c).arrAt_eq_of_after_last 4 tLast (by decide +kernel) _ fun j => by
    blk_simp
    rfl

/-- The normalized queries, as the region leaves them. -/
theorem arr5 : (dat m c).arrAt 5 cfg0.N = qn m c :=
  (dat m c).arrAt_eq_of_after_last 5 tLast (by decide +kernel) _ fun j => by
    blk_simp
    rfl

theorem arr_injective : Function.Injective (Pipeline.arrRef spec0) := by decide

/-- The first result after the host operations. -/
theorem tail5 : Pipeline.afterTail₀ cfgs (dats m) 0 (V0 m) [hostOps1] c main_v5
    = shapeCast S1x128x16 (transpose S128x16 [1, 0] (topOf (planesOf (bestAt m c 84))) transposes_S16x128_S128x16_1_0) shapeCasts_S128x16_S1x128x16 := by
  have h : Pipeline.withArrays (cfgs 0).spec c (V0 m c) (fun w => (dats m 0 c).arrAt w (cfgs 0).N) (Proc.tc.devRef main_v3_0)
      = topOf (planesOf (bestAt m c 84)) :=
    (Pipeline.withArrays_arr spec0 arr_injective c (V0 m c) (fun w => (dats m 0 c).arrAt w (cfgs 0).N) 4).trans (arr4 m c)
  unfold Pipeline.afterTail₀
  show StableHlo.after hostOps1 _ (Proc.devRef .tc main_v5) = _
  after_results
  rw [h]
  rfl

/-- The second result after the host operations. -/
theorem tail6 : Pipeline.afterTail₀ cfgs (dats m) 0 (V0 m) [hostOps1] c main_v6
    = shapeCast S1x128x2048 (qn m c) shapeCasts_S128x2048_S1x128x2048 := by
  have h : Pipeline.withArrays (cfgs 0).spec c (V0 m c) (fun w => (dats m 0 c).arrAt w (cfgs 0).N) (Proc.tc.devRef main_v3_1) = qn m c :=
    (Pipeline.withArrays_arr spec0 arr_injective c (V0 m c) (fun w => (dats m 0 c).arrAt w (cfgs 0).N) 5).trans (arr5 m c)
  unfold Pipeline.afterTail₀
  show StableHlo.after hostOps1 _ (Proc.devRef .tc main_v6) = _
  after_results
  rw [h]
  rfl

end Any

variable (m : (ℓ : Loc nD τ sig) → Buf (Elt Ideal) ℓ) (c : Dev nD)

/-- The first result is the reference's. -/
theorem result5 : Pipeline.afterTail₀ cfgs (dats m) 0 (V0 m) [hostOps1] c main_v5
    = val_main_v23 (F := Ideal) (arg0 m c) (arg1 m c) (arg2 m c) (arg3 m c) := by
  rw [tail5]
  funext i
  rw [val_main_v23_apply]
  have h0 : (i 0).val < 1 := (i 0).isLt
  have h1 : (i 1).val < 128 := (i 1).isLt
  have h2 : (i 2).val < 16 := (i 2).isLt
  refine (shapeCast_apply (s := S128x16) _ _ i (ix2 (i 1) (i 2)) ?_).trans ?_
  · rw [Shape.rowMajor_val_two, Shape.rowMajor_val_three]
    show (i 1).val * 16 + (i 2).val = ((i 0).val * 128 + (i 1).val) * 16 + (i 2).val
    omega
  refine (transpose_apply _ _ _ (ix2 (i 1) (i 2)) (ix2 (i 2) (i 1)) fun b => ?_).trans ?_
  · match b with
    | 0 => rfl
    | 1 => rfl
  refine (stored_eq m c (i 2) (i 1)).trans (congrArg _ (funext fun a => Fin.ext ?_))
  match a with
  | 0 =>
    show (i 1).val = (((i 0).val * 128 + (i 1).val) * 16 + (i 2).val) / 16
    omega
  | 1 =>
    show (i 2).val = (((i 0).val * 128 + (i 1).val) * 16 + (i 2).val) % 16
    omega

/-- The second result is the reference's. -/
theorem result6 : Pipeline.afterTail₀ cfgs (dats m) 0 (V0 m) [hostOps1] c main_v6
    = val_main_v14 (F := Ideal) (arg0 m c) (arg1 m c) := by
  rw [tail6]
  funext i
  have h0 : (i 0).val < 1 := (i 0).isLt
  refine (shapeCast_apply (s := S128x2048) _ _ i (ix2 (i 1) (i 2)) ?_).trans ?_
  · rw [Shape.rowMajor_val_two, Shape.rowMajor_val_three]
    show (i 1).val * 2048 + (i 2).val = ((i 0).val * 128 + (i 1).val) * 2048 + (i 2).val
    omega
  refine (qn_eq m c (i 1) (i 2)).trans (congrArg _ (funext fun a => Fin.ext ?_))
  match a with
  | 0 => show 0 = (i 0).val; omega
  | 1 => rfl
  | 2 => rfl

end Cert.KernelIdeal.Body

end
-- ==== Proof.Result.lean ====
/-
  The reference's frame, and the equality of the two programs' results over the extended reals.
-/
module

public import proofs.«01_k».proof.Defs
public import proofs.«01_k».proof.Proof.Output
public import Idealize.ShloMosaic.Lib.Quiescent

@[expose] public section

set_option maxRecDepth 16384

noncomputable section

namespace Cert.Result

open Idealize.ShloMosaic Idealize.ShloMosaic.TcCoe
open Idealize.SL.Sem
open Cert.ReferenceIdeal.Read

/-- The reference ends with its arguments as passed; it has no semaphore to leave raised. -/
theorem quiescent_ReferenceIdeal : Cert.quiescent_ReferenceIdeal := fun m ρ _ =>
  (θ_run _ _ _).mono (fun r h => ⟨fun c => (h c).2.2, sem_eq_zero_of_no_sems (by decide) r.2⟩) (Cert.ReferenceIdeal.Value.run m ρ)

/-- What a run of the reference leaves in its results. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v23)
            = val_main_v23 (F := Ideal) (m (c.tc.loc Cert.ReferenceIdeal.main_arg0)) (m (c.tc.loc Cert.ReferenceIdeal.main_arg1))
                (m (c.tc.loc Cert.ReferenceIdeal.main_arg2)) (m (c.tc.loc Cert.ReferenceIdeal.main_arg3))
        ∧ r.2.mem ((c.tc : Thread Cert.ReferenceIdeal.nD Cert.ReferenceIdeal.τ).loc Cert.ReferenceIdeal.main_v14)
            = val_main_v14 (F := Ideal) (m (c.tc.loc Cert.ReferenceIdeal.main_arg0)) (m (c.tc.loc Cert.ReferenceIdeal.main_arg1))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3) :=
  (θ_run _ _ _).mono (fun _ h c => ⟨(h c).1.trans (val_main_v23_eq _ _ _ _), (h c).2.1.trans (val_main_v14_eq _ _), (h c).2.2⟩)
    (Cert.ReferenceIdeal.Value.run m ρ)

open Cert.KernelIdeal Cert.KernelIdeal.Gen Cert.KernelIdeal.Body in
/-- What a run of the kernel leaves in its results: the reference's values of its own arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = val_main_v23 (F := Ideal) (arg0 m c) (arg1 m c) (arg2 m c) (arg3 m c)
      ∧ r.2.mem ((c.tc : Thread nD τ).loc main_v6) = val_main_v14 (F := Ideal) (arg0 m c) (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h.1 c).2 main_v5 (Pipeline.mem_restRefs_of main_v5 (by decide) (by decide))).trans (result5 m c),
      ((h.1 c).2 main_v6 (Pipeline.mem_restRefs_of main_v6 (by decide) (by decide))).trans (result6 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 2).trans (((dats m 0 c).arrAt_in 2 rfl _).trans (V_main_arg2 m c)),
      ((h.1 c).2 main_arg3 (Pipeline.mem_restRefs_of main_arg3 (by decide) (by decide))).trans (W_main_arg3 m (dats m) c)⟩) (run m ρ)

open Cert.KernelIdeal.Body in
/-- The two programs' results are equal over the extended reals. -/
theorem algebraic : Cert.algebraic_KernelIdeal_ReferenceIdeal := by
  intro m g m' g' _ hargs
  refine ⟨fun c => val_main_v23 (F := Ideal) (arg0 m c) (arg1 m c) (arg2 m c) (arg3 m c), fun c => val_main_v14 (F := Ideal) (arg0 m c) (arg1 m c),
    kernel_run m g, (θ_run _ _ _).mono (fun r h c => ⟨(h c).1.trans ?_, (h c).2.1.trans ?_, (h c).2.2⟩) (reference_run m' g')⟩
  · have e0 : m' (c.tc.loc Cert.ReferenceIdeal.main_arg0) = arg0 m c := (hargs c).1
    have e1 : m' (c.tc.loc Cert.ReferenceIdeal.main_arg1) = arg1 m c := (hargs c).2.1
    have e2 : m' (c.tc.loc Cert.ReferenceIdeal.main_arg2) = arg2 m c := (hargs c).2.2.1
    have e3 : m' (c.tc.loc Cert.ReferenceIdeal.main_arg3) = arg3 m c := (hargs c).2.2.2
    rw [e0, e1, e2, e3]
  · have e0 : m' (c.tc.loc Cert.ReferenceIdeal.main_arg0) = arg0 m c := (hargs c).1
    have e1 : m' (c.tc.loc Cert.ReferenceIdeal.main_arg1) = arg1 m c := (hargs c).2.1
    rw [e0, e1]

end Cert.Result

end
-- ==== Proof.lean ====
/-
  The proof of `Cert.Claim`: both programs and the reference run, end quiescent and keep their arguments; the idealization is
  the kernel's own text; and kernel and reference have equal results over the extended reals.
-/
module

public import proofs.«01_k».proof.Defs
public import proofs.«01_k».proof.Proof.Frames
public import proofs.«01_k».proof.Proof.Result

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.KernelIdeal.Body.quiescent_Kernel, Cert.KernelIdeal.Body.quiescent_KernelIdeal, Cert.Result.quiescent_ReferenceIdeal,
  trivial, Cert.Result.algebraic⟩

end Cert.Proof

end
